-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S4096x20 : Shape := ⟨2, ![4096, 20]⟩
abbrev S100000x128 : Shape := ⟨2, ![100000, 128]⟩
abbrev S_ : Shape := ⟨0, ![]⟩

class Facts : Prop where
  bcast_S_S4096x20 : S_.BroadcastsInDim S4096x20 (![] : Fin 0 → Fin S4096x20.rank)
  reducesTo_S4096x20_S_d0_1 : S4096x20.ReducesTo [0, 1] S_
  h_S_ : 0 < S_.numel

variable [Facts]

def fn {F : FTy → Type} [FloatOps F] (main_arg0 : IVec S4096x20 32) (main_arg1 : FVec F S100000x128 .f32) : IVec S_ 1 :=
  let main_c : IVec S_ 32 := constantI S_ 32 0#32
  let main_v0 : IVec S4096x20 32 := broadcastInDim S4096x20 ![] bcast_S_S4096x20 main_c
  let main_v1 : IVec S4096x20 1 := cmpi .sge main_arg0 main_v0
  let main_c_0 : IVec S_ 32 := constantI S_ 32 100000#32
  let main_v2 : IVec S4096x20 32 := broadcastInDim S4096x20 ![] bcast_S_S4096x20 main_c_0
  let main_v3 : IVec S4096x20 1 := cmpi .slt main_arg0 main_v2
  let main_v4 : IVec S4096x20 1 := andi main_v1 main_v3
  let main_c_1 : IVec S_ 1 := constantI S_ 1 1#1
  let main_v5 : IVec S_ 1 := (fun x v => Host.reduce IntOp.andi x v reducesTo_S4096x20_S_d0_1 h_S_) main_v4 main_c_1
  main_v5
-- ==== Kernel.lean ====
abbrev S4096x20 : Shape := ⟨2, ![4096, 20]⟩
abbrev S100000x128 : Shape := ⟨2, ![100000, 128]⟩
abbrev S32x128x20 : Shape := ⟨3, ![32, 128, 20]⟩
abbrev S32x20x128 : Shape := ⟨3, ![32, 20, 128]⟩
abbrev S20x4096x128 : Shape := ⟨3, ![20, 4096, 128]⟩
abbrev S20x128 : Shape := ⟨2, ![20, 128]⟩
abbrev S6x128x128 : Shape := ⟨3, ![6, 128, 128]⟩
abbrev S6 : Shape := ⟨1, ![6]⟩
abbrev S_ : Shape := ⟨0, ![]⟩
abbrev S1x20x128 : Shape := ⟨3, ![1, 20, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S4096x20x128 : Shape := ⟨3, ![4096, 20, 128]⟩

abbrev nBuf : Table → Nat
  | .hbm => 6
  | .local .scVector .vmem => 2
  | _ => 0

abbrev bufTy : (tb : Table) → Fin (nBuf tb) → BufTy
  | .hbm, ⟨0, _⟩ => ⟨S4096x20, .i32⟩
  | .hbm, ⟨1, _⟩ => ⟨S100000x128, .f32⟩
  | .hbm, ⟨2, _⟩ => ⟨S32x128x20, .i32⟩
  | .hbm, ⟨3, _⟩ => ⟨S32x20x128, .i32⟩
  | .hbm, ⟨4, _⟩ => ⟨S20x4096x128, .f32⟩
  | .hbm, ⟨5, _⟩ => ⟨S4096x20x128, .f32⟩
  | .local .scVector .vmem, ⟨0, _⟩ => ⟨S20x128, .i32⟩
  | .local .scVector .vmem, ⟨1, _⟩ => ⟨S6x128x128, .f32⟩
  | _, _ => ⟨S4096x20, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_87_r0 : BitVec 32 := 0#32
  let c0_i32_88_r0 : BitVec 32 := 0#32
  ![v1.toNat, 0, 0]
@[reducible] def k0_t1_loop : Scf.Loop 32 :=
  let c0_i32_36 : BitVec 32 := 0#32
  let c20_i32 : BitVec 32 := 20#32
  let v38 : BitVec 32 := Scalar.addi c0_i32_36 c20_i32
  let c1_i32_37 : BitVec 32 := 1#32
  ⟨c0_i32_36, v38, c1_i32_37⟩
def k0_cond1 (k0_t1 : Fin k0_t1_loop.trips) : BitVec 1 :=
  let c0_i32_36 : BitVec 32 := 0#32
  let c1_i32_37 : BitVec 32 := 1#32
  let arg9 : BitVec 32 := Scf.iv c0_i32_36 c1_i32_37 k0_t1
  let c6_i32 : BitVec 32 := 6#32
  let v87 : BitVec 32 := Scalar.addi arg9 c6_i32
  let c1_i32_87 : BitVec 32 := 1#32
  let v88 : BitVec 32 := Scalar.subi v87 c1_i32_87
  let c20_i32_88 : BitVec 32 := 20#32
  let v89 : BitVec 1 := Scalar.cmpi .slt v88 c20_i32_88
  let c1_i32_89 : BitVec 32 := 1#32
  let v90 : BitVec 1 := Scalar.cmpi .sge arg9 c1_i32_89
  let v91 : BitVec 1 := Scalar.andi v89 v90
  let v92 : BitVec 32 := Scalar.extui v91
  let c0_i32_90 : BitVec 32 := 0#32
  let v93 : BitVec 1 := Scalar.cmpi .ne v92 c0_i32_90
  v93

def k0_off2 (i : grid0.Coords) : Fin 3 → Nat :=
  let c0_i32_108 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_111 : BitVec 32 := 0#32
  ![0, v2.toNat, 0]
def k0_cond2 (k0_t1 : Fin k0_t1_loop.trips) : BitVec 1 :=
  let c0_i32_36 : BitVec 32 := 0#32
  let c1_i32_37 : BitVec 32 := 1#32
  let arg9 : BitVec 32 := Scf.iv c0_i32_36 c1_i32_37 k0_t1
  let c6_i32 : BitVec 32 := 6#32
  let v87 : BitVec 32 := Scalar.addi arg9 c6_i32
  let c1_i32_87 : BitVec 32 := 1#32
  let v88 : BitVec 32 := Scalar.subi v87 c1_i32_87
  let c20_i32_91 : BitVec 32 := 20#32
  let v94 : BitVec 1 := Scalar.cmpi .slt v88 c20_i32_91
  let v95 : BitVec 32 := Scalar.extui v94
  let c0_i32_92 : BitVec 32 := 0#32
  let v96 : BitVec 1 := Scalar.cmpi .ne v95 c0_i32_92
  v96

def k0_off3 (k0_t1 : Fin k0_t1_loop.trips) : Fin 3 → Nat :=
  let c0_i32_36 : BitVec 32 := 0#32
  let c1_i32_37 : BitVec 32 := 1#32
  let arg9 : BitVec 32 := Scf.iv c0_i32_36 c1_i32_37 k0_t1
  let c6_i32 : BitVec 32 := 6#32
  let v87 : BitVec 32 := Scalar.addi arg9 c6_i32
  let c1_i32_87 : BitVec 32 := 1#32
  let v88 : BitVec 32 := Scalar.subi v87 c1_i32_87
  let c6_i32_107 : BitVec 32 := 6#32
  let v115 : BitVec 32 := Scalar.remsi v88 c6_i32_107
  let c0_i32_109 : BitVec 32 := 0#32
  let c0_i32_110 : BitVec 32 := 0#32
  ![v115.toNat, 0, 0]
def k0_off4 (k0_t1 : Fin k0_t1_loop.trips) : Fin 2 → Nat :=
  let c0_i32_36 : BitVec 32 := 0#32
  let c1_i32_37 : BitVec 32 := 1#32
  let arg9 : BitVec 32 := Scf.iv c0_i32_36 c1_i32_37 k0_t1
  let c6_i32 : BitVec 32 := 6#32
  let v87 : BitVec 32 := Scalar.addi arg9 c6_i32
  let c1_i32_87 : BitVec 32 := 1#32
  let v88 : BitVec 32 := Scalar.subi v87 c1_i32_87
  let c0_i32_111 : BitVec 32 := 0#32
  ![v88.toNat, 0]
def k0_off5 (k0_t1 : Fin k0_t1_loop.trips) : Fin 1 → Nat :=
  let c0_i32_36 : BitVec 32 := 0#32
  let c1_i32_37 : BitVec 32 := 1#32
  let arg9 : BitVec 32 := Scf.iv c0_i32_36 c1_i32_37 k0_t1
  let c6_i32 : BitVec 32 := 6#32
  let v87 : BitVec 32 := Scalar.addi arg9 c6_i32
  let c1_i32_87 : BitVec 32 := 1#32
  let v88 : BitVec 32 := Scalar.subi v87 c1_i32_87
  let c6_i32_108 : BitVec 32 := 6#32
  let v116 : BitVec 32 := Scalar.remsi v88 c6_i32_108
  ![v116.toNat]
def k0_off6 (k0_t1 : Fin k0_t1_loop.trips) : Fin 3 → Nat :=
  let c0_i32_36 : BitVec 32 := 0#32
  let c1_i32_37 : BitVec 32 := 1#32
  let arg9 : BitVec 32 := Scf.iv c0_i32_36 c1_i32_37 k0_t1
  let c6_i32_93 : BitVec 32 := 6#32
  let v97 : BitVec 32 := Scalar.remsi arg9 c6_i32_93
  let c0_i32_95 : BitVec 32 := 0#32
  let c0_i32_96 : BitVec 32 := 0#32
  ![v97.toNat, 0, 0]
def k0_off7 (k0_t1 : Fin k0_t1_loop.trips) : Fin 2 → Nat :=
  let c0_i32_36 : BitVec 32 := 0#32
  let c1_i32_37 : BitVec 32 := 1#32
  let arg9 : BitVec 32 := Scf.iv c0_i32_36 c1_i32_37 k0_t1
  let c0_i32_97 : BitVec 32 := 0#32
  ![arg9.toNat, 0]
def k0_off8 (k0_t1 : Fin k0_t1_loop.trips) : Fin 1 → Nat :=
  let c0_i32_36 : BitVec 32 := 0#32
  let c1_i32_37 : BitVec 32 := 1#32
  let arg9 : BitVec 32 := Scf.iv c0_i32_36 c1_i32_37 k0_t1
  let c6_i32_94 : BitVec 32 := 6#32
  let v98 : BitVec 32 := Scalar.remsi arg9 c6_i32_94
  ![v98.toNat]
def k0_off9 (i : grid0.Coords) (k0_t1 : Fin k0_t1_loop.trips) : Fin 3 → Nat :=
  let c0_i32_36 : BitVec 32 := 0#32
  let c1_i32_37 : BitVec 32 := 1#32
  let arg9 : BitVec 32 := Scf.iv c0_i32_36 c1_i32_37 k0_t1
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_103 : BitVec 32 := 0#32
  ![arg9.toNat, v2.toNat, 0]
def k0_off10 (i : grid0.Coords) : Fin 3 → Nat :=
  let c0_i32_40 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_43 : BitVec 32 := 0#32
  ![0, v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x20 : Shape := ⟨2, ![4096, 20]⟩
abbrev S100000x128 : Shape := ⟨2, ![100000, 128]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩
abbrev S4096x20x128 : Shape := ⟨3, ![4096, 20, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x20, .i32⟩
  | .hbm, ⟨1, _⟩ => ⟨S100000x128, .f32⟩
  | .hbm, ⟨2, _⟩ => ⟨S_, .i32⟩
  | .hbm, ⟨3, _⟩ => ⟨S4096x20, .i32⟩
  | .hbm, ⟨4, _⟩ => ⟨S4096x20, .i1⟩
  | .hbm, ⟨5, _⟩ => ⟨S_, .i32⟩
  | .hbm, ⟨6, _⟩ => ⟨S4096x20, .i32⟩
  | .hbm, ⟨7, _⟩ => ⟨S4096x20, .i32⟩
  | .hbm, ⟨8, _⟩ => ⟨S4096x20, .i32⟩
  | .hbm, ⟨9, _⟩ => ⟨S4096x20x1, .i32⟩
  | .hbm, ⟨10, _⟩ => ⟨S1, .i32⟩
  | .hbm, ⟨11, _⟩ => ⟨S_, .i32⟩
  | .hbm, ⟨12, _⟩ => ⟨S4096x20x1, .i32⟩
  | .hbm, ⟨13, _⟩ => ⟨S4096x20x1, .i1⟩
  | .hbm, ⟨14, _⟩ => ⟨S1x1x1, .i32⟩
  | .hbm, ⟨15, _⟩ => ⟨S4096x20x1, .i32⟩
  | .hbm, ⟨16, _⟩ => ⟨S4096x20x1, .i1⟩
  | .hbm, ⟨17, _⟩ => ⟨S4096x20x1, .i1⟩
  | .hbm, ⟨18, _⟩ => ⟨S_, .i1⟩
  | .hbm, ⟨19, _⟩ => ⟨S4096x20, .i1⟩
  | .hbm, ⟨20, _⟩ => ⟨S4096x20x128, .f32⟩
  | .hbm, ⟨21, _⟩ => ⟨S4096x20x128, .i1⟩
  | .hbm, ⟨22, _⟩ => ⟨S_, .f32⟩
  | .hbm, ⟨23, _⟩ => ⟨S4096x20x128, .f32⟩
  | .hbm, ⟨24, _⟩ => ⟨S4096x20x128, .f32⟩
  | _, _ => ⟨S4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Range.lean ====
/-
  The precondition, read: the row numbers are rows of the table. It is computed as the conjunction over all row numbers `v`
  of the signed comparisons `0 ≤ v` and `v < 100000`.
-/
module

public import proofs.«01_k».proof.Pre_in_table
public import Idealize.ShloMosaic.Lib.ReduceAll
public import Idealize.ShloMosaic.Lib.StableHlo.Predicate

@[expose] public section

namespace Cert.Proof.Embed

open Idealize.ShloMosaic Idealize.ShloMosaic.StableHlo

/-- A word that is at least 0 and below 100000 as a signed number is below 100000. -/
theorem word_in_range (v : BitVec 32) (h : IntOp.andi (IntOp.cmpi .sge v 0#32) (IntOp.cmpi .slt v 100000#32) = 1#1) : v.toNat < 100000 := by
  obtain ⟨h0, h1⟩ := IntOp.andi_eq_one.1 h
  simp only [IntOp.cmpi, Predicate.ofBool_eq_one_iff, BitVec.sle_eq_decide, BitVec.slt_eq_decide, decide_eq_true_eq,
    BitVec.toInt_eq_toNat_cond, BitVec.toNat_ofNat, Nat.reducePow, Nat.reduceMod] at h0 h1
  omega

variable [Cert.Pre_in_table.Facts] {F : FTy → Type} [FloatOps F]

/-- Under the precondition every row number is below the table's height. -/
theorem ids_in_range (ids : IVec Cert.Pre_in_table.S4096x20 32) (X : FVec F Cert.Pre_in_table.S100000x128 .f32)
    (h : Cert.Pre_in_table.fn (F := F) ids X = fun _ => 1#1) (j : Cert.Pre_in_table.S4096x20.Idx) : (ids j).toNat < 100000 := by
  have : Subsingleton Cert.Pre_in_table.S_.Idx := ⟨fun a b => funext fun i => i.elim0⟩
  have e := congrFun h (fun a => a.elim0)
  exact word_in_range _ (Host.reduce_andi_all _ _ _ _ _ e j)

end Cert.Proof.Embed
-- ==== Proof.Setup.lean ====
/-
  The kernel's SparseCore call as the launch theorem sees it, and the names the other modules use: the call's
  configuration, the resource algebra, and where a tile's operands lie.

  A tile is a pair (core, subcore) of the 2 × 16 grid. Tile `(c, i)` has the number `2 * i + c` and works on the block of
  128 batch rows of that number.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCoords
public import proofs.«01_k».proof.Proof.Gen.KernelIdeal
public import proofs.«01_k».proof.Proof.Gen.KernelIdeal.Skeleton

@[expose] public section

noncomputable section

namespace Cert.Proof.Embed

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The call -/

/-- The labels of the program with the call's launches in it. -/
abbrev ΛP : Labels := Pipeline.Sig Λ₀ (Fin 0) fun p => (pcfgs (F := F) p).Adm
/-- The one SparseCore call. -/
abbrev K : SparseCore.Cfg τ sig (ΛP (F := F)) 1 := sc (F := F)
/-- The program's definitions under the launches. -/
abbrev D [FloatOps F] : Defs nD τ sig (Elt F) (ΛP (F := F)) := Pipeline.defs pcfgs defs₀
/-- No loop of the program needs a variant. -/
abbrev 𝒱₀ : Variants := Variants.none
abbrev 𝒱 : Variants := 𝒱₀.lift
abbrev v₀ : 𝒱.V := Sum.inl none

/-- The call's handshake semaphores are distinct and none of them is scoped to a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The rounds of the call's handshakes. -/
abbrev UH : Type := URounds (GSem nD τ sig) ℕ
/-- The user resources: the handshakes' rounds and the transfers' counters. -/
abbrev UU : Type := UH × Counters
/-- The resources of the proof. -/
abbrev MM (F : FTy → Type) : Type := MT nD τ sig (HIx 1) (Elt F) ℕ UU ℕ

abbrev EH : Emb UH (MM F) := embL

/-! ## Tiles and the buffers -/

/-- The core and the subcore a grid point runs on. -/
abbrev cV (L : grid0.Coords) : Fin τ.nSC := (L 0).castLE hcore0
abbrev jV (L : grid0.Coords) : Fin τ.nSub := (L 1).castLE hsub0
/-- The thread of a grid point. -/
abbrev thr (d : Dev nD) (L : grid0.Coords) : Thread nD τ := V d (cV L) (jV L)

/-- The number of a grid point: of its block of batch rows, and of its read share of the table. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The row numbers the call reads, laid out block by block; the table; the result. -/
abbrev iLoc (d : Dev nD) : Loc nD τ sig := (SparseCore.T d).loc main_v1
abbrev xLoc (d : Dev nD) : Loc nD τ sig := (SparseCore.T d).loc main_arg1
abbrev oLoc (d : Dev nD) : Loc nD τ sig := (SparseCore.T d).loc main_v2

/-- A tile's scratch: the row numbers of its block, and the six row buffers. -/
abbrev sLoc (d : Dev nD) (L : grid0.Coords) : Loc nD τ sig := (thr d L).loc cc0_scratch0
abbrev rLoc (d : Dev nD) (L : grid0.Coords) : Loc nD τ sig := (thr d L).loc cc0_scratch1

/-- The call's operands and the scratch, whole. -/
abbrev iV : Memref sig .scVector .hbm S32x20x128 .i32 := Memref.whole main_v1_scv
abbrev xV : Memref sig .scVector .hbm S100000x128 .f32 := Memref.whole main_arg1_scv
abbrev oV : Memref sig .scVector .hbm S20x4096x128 .f32 := Memref.whole main_v2_scv
abbrev sV : Memref sig .scVector .vmem S20x128 .i32 := Memref.whole cc0_scratch0
abbrev rV : Memref sig .scVector .vmem S6x128x128 .f32 := Memref.whole cc0_scratch1

/-! ## The slices a tile's copies name, by their offsets -/

/-- One buffer of the six, as a matrix of 128 rows. -/
abbrev slotM (off : Fin 3 → ℕ) (h : ∀ a, off a + S1x128x128.size a ≤ S6x128x128.size a) : Memref sig .scVector .vmem S128x128 .f32 :=
  ((rV).slice (Rect.unit (s := S6x128x128) off S1x128x128.size h) (fun _ => rfl)).squeeze S128x128 squeezes_S1x128x128_S128x128
/-- One row of the scratch row numbers, as a list. -/
abbrev rowM (off : Fin 2 → ℕ) (h : ∀ a, off a + S1x128.size a ≤ S20x128.size a) : Memref sig .scVector .vmem S128 .i32 :=
  ((sV).slice (Rect.unit (s := S20x128) off S1x128.size h) (fun _ => rfl)).squeeze S128 squeezes_S1x128_S128
/-- A block of 128 rows of one time step of the result, as a matrix. -/
abbrev outM (off : Fin 3 → ℕ) (h : ∀ a, off a + S1x128x128.size a ≤ S20x4096x128.size a) : Memref sig .scVector .hbm S128x128 .f32 :=
  ((oV).slice (Rect.unit (s := S20x4096x128) off S1x128x128.size h) (fun _ => rfl)).squeeze S128x128 squeezes_S1x128x128_S128x128
/-- One block of the row numbers, as a matrix of 20 time steps. -/
abbrev idxM (off : Fin 3 → ℕ) (h : ∀ a, off a + S1x20x128.size a ≤ S32x20x128.size a) : Memref sig .scVector .hbm S20x128 .i32 :=
  ((iV).slice (Rect.unit (s := S32x20x128) off S1x20x128.size h) (fun _ => rfl)).squeeze S20x128 squeezes_S1x20x128_S20x128
/-- The whole table, written as a slice of itself. -/
abbrev tableM (off : Fin 2 → ℕ) (h : ∀ a, off a + S100000x128.size a ≤ S100000x128.size a) : Memref sig .scVector .hbm S100000x128 .f32 :=
  (xV).slice (Rect.unit (s := S100000x128) off S100000x128.size h) (fun _ => rfl)
/-- The semaphore of one buffer's gather. -/
abbrev gsemM (off : Fin 1 → ℕ) (h : ∀ a, off a + S1.size a ≤ S6.size a) : DmaSem sig :=
  ((cc0_scratch2.slice (Rect.unit (s := S6) off S1.size h)).squeeze S_ squeezes_S1_S_).sem

/-- The semaphore of the buffer of time step `t`: buffers and their semaphores are taken in turn, six in all. -/
def gcell (t : ℕ) : DmaSem sig := ⟨t % 6, Nat.lt_trans (Nat.mod_lt t (by decide)) (by decide)⟩

end Cert.Proof.Embed
-- ==== Proof.Geometry.lean ====
/-
  Where the slices a tile names lie in the buffers they are slices of: at each slice, the coordinates of the element
  under an index, and the set of all elements under it.
-/
module

public import proofs.«01_k».proof.Proof.Setup

@[expose] public section

noncomputable section

namespace Cert.Proof.Embed

open Cert.KernelIdeal Cert.KernelIdeal.Gen

open Idealize.ShloMosaic

/-! ## The sets -/

/-- Buffer number `t` of the six, taken in turn. -/
def slotSet (t : ℕ) : Finset S6x128x128.Idx := Finset.univ.filter fun i => (i 0).val = t % 6
/-- Row `t` of the scratch row numbers. -/
def rowSet (t : ℕ) : Finset S20x128.Idx := Finset.univ.filter fun i => (i 0).val = t
/-- The 128 rows of block `w` at time step `t` of the result. -/
def outSet (w t : ℕ) : Finset S20x4096x128.Idx := Finset.univ.filter fun i => (i 0).val = t ∧ (i 1).val / 128 = w
/-- Block `w` of the result, at every time step. -/
def blockSet (w : ℕ) : Finset S20x4096x128.Idx := Finset.univ.filter fun i => (i 1).val / 128 = w
/-- Block `w` of the row numbers. -/
def idxSet (w : ℕ) : Finset S32x20x128.Idx := Finset.univ.filter fun i => (i 0).val = w

theorem mem_slotSet {t : ℕ} {i : S6x128x128.Idx} : i ∈ slotSet t ↔ (i 0).val = t % 6 := by simp [slotSet]
theorem mem_rowSet {t : ℕ} {i : S20x128.Idx} : i ∈ rowSet t ↔ (i 0).val = t := by simp [rowSet]
theorem mem_outSet {w t : ℕ} {i : S20x4096x128.Idx} : i ∈ outSet w t ↔ (i 0).val = t ∧ (i 1).val / 128 = w := by simp [outSet]
theorem mem_blockSet {w : ℕ} {i : S20x4096x128.Idx} : i ∈ blockSet w ↔ (i 1).val / 128 = w := by simp [blockSet]
theorem mem_idxSet {w : ℕ} {i : S32x20x128.Idx} : i ∈ idxSet w ↔ (i 0).val = w := by simp [idxSet]

/-! ## The element under an index -/

/-- The element of a buffer's slice under `x`. -/
theorem slotM_emb {off : Fin 3 → ℕ} {h} (x : S128x128.Idx) :
    (((slotM off h).view.emb x) 0).val = off 0 ∧ (((slotM off h).view.emb x) 1).val = off 1 + (x 0).val
      ∧ (((slotM off h).view.emb x) 2).val = off 2 + (x 1).val := by
  have e : (slotM off h).view.emb x
      = (Rect.unit (s := S6x128x128) off S1x128x128.size h).emb (Shape.reshapeEquiv squeezes_S1x128x128_S128x128.numel_eq x) := rfl
  have r := Shape.reshapeEquiv_cons_one (d := ![128, 128]) squeezes_S1x128x128_S128x128.numel_eq x
  rw [e, r]
  refine ⟨?_, ?_, ?_⟩ <;> simp [Rect.emb_apply, Fin.cons] <;> rfl

/-- The element of a list's slice under `x`. -/
theorem rowM_emb {off : Fin 2 → ℕ} {h} (x : S128.Idx) :
    (((rowM off h).view.emb x) 0).val = off 0 ∧ (((rowM off h).view.emb x) 1).val = off 1 + (x 0).val := by
  have e : (rowM off h).view.emb x
      = (Rect.unit (s := S20x128) off S1x128.size h).emb (Shape.reshapeEquiv squeezes_S1x128_S128.numel_eq x) := rfl
  have r := Shape.reshapeEquiv_cons_one (d := ![128]) squeezes_S1x128_S128.numel_eq x
  rw [e, r]
  refine ⟨?_, ?_⟩ <;> simp [Rect.emb_apply, Fin.cons] <;> rfl

/-- The element of a result block under `x`. -/
theorem outM_emb {off : Fin 3 → ℕ} {h} (x : S128x128.Idx) :
    (((outM off h).view.emb x) 0).val = off 0 ∧ (((outM off h).view.emb x) 1).val = off 1 + (x 0).val
      ∧ (((outM off h).view.emb x) 2).val = off 2 + (x 1).val := by
  have e : (outM off h).view.emb x
      = (Rect.unit (s := S20x4096x128) off S1x128x128.size h).emb (Shape.reshapeEquiv squeezes_S1x128x128_S128x128.numel_eq x) := rfl
  have r := Shape.reshapeEquiv_cons_one (d := ![128, 128]) squeezes_S1x128x128_S128x128.numel_eq x
  rw [e, r]
  refine ⟨?_, ?_, ?_⟩ <;> simp [Rect.emb_apply, Fin.cons] <;> rfl

/-- The element of a block of the row numbers under `x`. -/
theorem idxM_emb {off : Fin 3 → ℕ} {h} (x : S20x128.Idx) :
    (((idxM off h).view.emb x) 0).val = off 0 ∧ (((idxM off h).view.emb x) 1).val = off 1 + (x 0).val
      ∧ (((idxM off h).view.emb x) 2).val = off 2 + (x 1).val := by
  have e : (idxM off h).view.emb x
      = (Rect.unit (s := S32x20x128) off S1x20x128.size h).emb (Shape.reshapeEquiv squeezes_S1x20x128_S20x128.numel_eq x) := rfl
  have r := Shape.reshapeEquiv_cons_one (d := ![20, 128]) squeezes_S1x20x128_S20x128.numel_eq x
  rw [e, r]
  refine ⟨?_, ?_, ?_⟩ <;> simp [Rect.emb_apply, Fin.cons] <;> rfl

/-- The table's slice at the origin is the table. -/
theorem tableM_emb {off : Fin 2 → ℕ} {h} (ho : off = ![0, 0]) (x : S100000x128.Idx) : (tableM off h).view.emb x = x := by
  subst ho
  have e : (tableM ![0, 0] h).view.emb x = (Rect.unit (s := S100000x128) ![0, 0] S100000x128.size h).emb x := rfl
  rw [e]
  funext a
  apply Fin.ext
  fin_cases a <;> simp [Rect.emb_apply] <;> rfl

/-! ## The slices' sets -/

/-- An element lies under a view when it lies under an index of it. -/
theorem mem_view_set {κ : Kind} {sp : Space} {s : Shape} {e : EltTy} (v : Memref sig κ sp s e) (i : v.view.ty.Idx) :
    i ∈ v.view.set ↔ ∃ x, v.view.emb x = i := by
  simp only [View.set, Finset.mem_map, Finset.mem_univ, true_and]

/-- A buffer's slice covers the buffer. -/
theorem slotM_set {off : Fin 3 → ℕ} {h} {t : ℕ} (ho : off = ![t % 6, 0, 0]) : (slotM off h).view.set = slotSet t := by
  subst ho
  ext i
  refine (mem_view_set _ i).trans (Iff.trans ?_ mem_slotSet.symm)
  constructor
  · rintro ⟨x, rfl⟩
    exact (slotM_emb x).1
  · intro hi
    refine ⟨ValueIdx.ix2 (i 1) (i 2), ?_⟩
    obtain ⟨h0, h1, h2⟩ := slotM_emb (h := h) (ValueIdx.ix2 (i 1) (i 2))
    funext a
    apply Fin.ext
    fin_cases a
    · exact h0.trans hi.symm
    · exact h1.trans (Nat.zero_add _)
    · exact h2.trans (Nat.zero_add _)

/-- A list's slice covers the row. -/
theorem rowM_set {off : Fin 2 → ℕ} {h} {t : ℕ} (ho : off = ![t, 0]) : (rowM off h).view.set = rowSet t := by
  subst ho
  ext i
  refine (mem_view_set _ i).trans (Iff.trans ?_ mem_rowSet.symm)
  constructor
  · rintro ⟨x, rfl⟩
    exact (rowM_emb x).1
  · intro hi
    refine ⟨ValueIdx.ix1 (i 1), ?_⟩
    obtain ⟨h0, h1⟩ := rowM_emb (h := h) (ValueIdx.ix1 (i 1))
    funext a
    apply Fin.ext
    fin_cases a
    · exact h0.trans hi.symm
    · exact h1.trans (Nat.zero_add _)

/-- A result block's slice covers the block's rows of the time step. -/
theorem outM_set {off : Fin 3 → ℕ} {h} {w t : ℕ} (ho : off = ![t, 128 * w, 0]) : (outM off h).view.set = outSet w t := by
  subst ho
  ext i
  refine (mem_view_set _ i).trans (Iff.trans ?_ mem_outSet.symm)
  constructor
  · rintro ⟨x, rfl⟩
    obtain ⟨h0, h1, -⟩ := outM_emb (h := h) x
    have hx : (x 0).val < 128 := (x 0).isLt
    refine ⟨h0, ?_⟩
    rw [h1]
    show (128 * w + (x 0).val) / 128 = w
    omega
  · rintro ⟨hi0, hi1⟩
    have hlt : (i 1).val - 128 * w < 128 := by omega
    refine ⟨ValueIdx.ix2 ⟨(i 1).val - 128 * w, hlt⟩ (i 2), ?_⟩
    obtain ⟨h0, h1, h2⟩ := outM_emb (h := h) (ValueIdx.ix2 ⟨(i 1).val - 128 * w, hlt⟩ (i 2))
    funext a
    apply Fin.ext
    fin_cases a
    · exact h0.trans hi0.symm
    · refine h1.trans ?_
      show 128 * w + ((i 1).val - 128 * w) = (i 1).val
      omega
    · exact h2.trans (Nat.zero_add _)

/-- The slice of a block of the row numbers covers the block. -/
theorem idxM_set {off : Fin 3 → ℕ} {h} {w : ℕ} (ho : off = ![w, 0, 0]) : (idxM off h).view.set = idxSet w := by
  subst ho
  ext i
  refine (mem_view_set _ i).trans (Iff.trans ?_ mem_idxSet.symm)
  constructor
  · rintro ⟨x, rfl⟩
    exact (idxM_emb x).1
  · intro hi
    refine ⟨ValueIdx.ix2 (i 1) (i 2), ?_⟩
    obtain ⟨h0, h1, h2⟩ := idxM_emb (h := h) (ValueIdx.ix2 (i 1) (i 2))
    funext a
    apply Fin.ext
    fin_cases a
    · exact h0.trans hi.symm
    · exact h1.trans (Nat.zero_add _)
    · exact h2.trans (Nat.zero_add _)

/-- The table's slice at the origin covers the table. -/
theorem tableM_set {off : Fin 2 → ℕ} {h} (ho : off = ![0, 0]) : (tableM off h).view.set = Finset.univ := by
  ext i
  refine (mem_view_set _ i).trans ⟨fun _ => Finset.mem_univ _, fun _ => ⟨i, tableM_emb ho i⟩⟩

/-- The semaphore of a buffer's gather, by its number. -/
theorem gsemM_eq {off : Fin 1 → ℕ} {h} {t : ℕ} (ho : off = ![t % 6]) : gsemM off h = gcell t := by
  subst ho
  have key : ∀ (u : Fin 6) (h : ∀ a, (![u.val] : Fin 1 → ℕ) a + S1.size a ≤ S6.size a), (gsemM ![u.val] h).val = u.val := by
    decide +kernel
  exact Fin.ext (key ⟨t % 6, Nat.mod_lt t (by decide)⟩ h)

/-! ## Parts and wholes -/

/-- Buffers of different numbers are disjoint, and the six are all there is. -/
theorem slotSet_disjoint {t u : ℕ} (h : t % 6 ≠ u % 6) : Disjoint (slotSet t) (slotSet u) :=
  Finset.disjoint_left.mpr fun _ hi hj => h ((mem_slotSet.mp hi).symm.trans (mem_slotSet.mp hj))

/-- A buffer's number counts up to multiples of six. -/
theorem slotSet_mod {t u : ℕ} (h : t % 6 = u % 6) : slotSet t = slotSet u := by simp only [slotSet, h]

/-- A semaphore's number counts up to multiples of six. -/
theorem gcell_mod {t u : ℕ} (h : t % 6 = u % 6) : gcell t = gcell u := by simp only [gcell, h]

theorem rowSet_disjoint {t u : ℕ} (h : t ≠ u) : Disjoint (rowSet t) (rowSet u) :=
  Finset.disjoint_left.mpr fun _ hi hj => h ((mem_rowSet.mp hi).symm.trans (mem_rowSet.mp hj))

theorem outSet_disjoint {w t u : ℕ} (h : t ≠ u) : Disjoint (outSet w t) (outSet w u) :=
  Finset.disjoint_left.mpr fun _ hi hj => h ((mem_outSet.mp hi).1.symm.trans (mem_outSet.mp hj).1)

theorem blockSet_disjoint {w u : ℕ} (h : w ≠ u) : Disjoint (blockSet w) (blockSet u) :=
  Finset.disjoint_left.mpr fun _ hi hj => h ((mem_blockSet.mp hi).symm.trans (mem_blockSet.mp hj))

theorem idxSet_disjoint {w u : ℕ} (h : w ≠ u) : Disjoint (idxSet w) (idxSet u) :=
  Finset.disjoint_left.mpr fun _ hi hj => h ((mem_idxSet.mp hi).symm.trans (mem_idxSet.mp hj))

/-- The scratch row numbers are their twenty rows. -/
theorem biUnion_rowSet : (Finset.range 20).biUnion rowSet = Finset.univ := by
  ext i
  have h : (i 0).val < 20 := (i 0).isLt
  simp only [Finset.mem_biUnion, Finset.mem_range, mem_rowSet, Finset.mem_univ, iff_true]
  exact ⟨_, h, rfl⟩

/-- A block of the result is its rows at the twenty time steps. -/
theorem biUnion_outSet (w : ℕ) : (Finset.range 20).biUnion (outSet w) = blockSet w := by
  ext i
  have h : (i 0).val < 20 := (i 0).isLt
  simp only [Finset.mem_biUnion, Finset.mem_range, mem_outSet, mem_blockSet]
  exact ⟨fun ⟨_, _, h⟩ => h.2, fun hw => ⟨_, h, rfl, hw⟩⟩

/-- The six buffers from any number on are all the buffers. -/
theorem biUnion_slotSet (b : ℕ) : (Finset.Ico b (b + 6)).biUnion slotSet = Finset.univ := by
  ext i
  have h : (i 0).val < 6 := (i 0).isLt
  simp only [Finset.mem_biUnion, Finset.mem_Ico, mem_slotSet, Finset.mem_univ, iff_true]
  refine ⟨b + ((i 0).val + 6 - b % 6) % 6, by omega, by omega⟩

end Cert.Proof.Embed
-- ==== Proof.Values.lean ====
/-
  What the buffers hold, as functions of the row numbers `ix` (block, time step, place in the block) and of the table `X`;
  and that each copy of a tile carries just that from one to the next.
-/
module

public import proofs.«01_k».proof.Proof.Geometry

@[expose] public section

noncomputable section

namespace Cert.Proof.Embed

open Cert.KernelIdeal Cert.KernelIdeal.Gen

open Idealize.ShloMosaic
open Idealize.ShloMosaic.ValueIdx (ix1 ix2 ix3)

variable {F : FTy → Type}

/-! ## The contents -/

/-- A row of the table from a row number. -/
def rowNo (v : BitVec 32) : Fin 100000 := ⟨v.toNat % 100000, Nat.mod_lt _ (by decide)⟩

theorem rowNo_of_lt {v : BitVec 32} (h : v.toNat < 100000) : rowNo v = ⟨v.toNat, h⟩ :=
  Fin.ext (Nat.mod_eq_of_lt h)

variable (ix : S32x20x128.Idx → Elt F .i32) (X : S100000x128.Idx → Elt F .f32)

/-- The number of a block, and of a time step, as coordinates. -/
abbrev blockNo (w : ℕ) : Fin 32 := ⟨w % 32, Nat.mod_lt _ (by decide)⟩
abbrev stepNo (t : ℕ) : Fin 20 := ⟨t % 20, Nat.mod_lt _ (by decide)⟩

/-- The scratch row numbers of the tile of block `w`. -/
def listOf (w : ℕ) : S20x128.Idx → Elt F .i32 := fun i => ix (ix3 (blockNo w) (i 0) (i 1))
/-- The rows of block `w` at time step `t`, in whichever buffer. -/
def rowsOf (w t : ℕ) : S6x128x128.Idx → Elt F .f32 := fun i => X (ix2 (rowNo (ix (ix3 (blockNo w) (stepNo t) (i 1)))) (i 2))
/-- The result: at time step `t`, batch row `b`, the row of the table that the row number at `(t, b)` names. -/
def result : S20x4096x128.Idx → Elt F .f32 := fun i =>
  X (ix2 (rowNo (ix (ix3 ⟨(i 1).val / 128, Nat.div_lt_of_lt_mul (i 1).isLt⟩ (i 0) ⟨(i 1).val % 128, Nat.mod_lt _ (by decide)⟩))) (i 2))

/-! ## Writing through a view -/

/-- A payload that reads as `g` does through the view leaves `g` under the view. -/
theorem write_agrees {κ : Kind} {sp : Space} {s : Shape} {e : EltTy} (v : Memref sig κ sp s e)
    {fd g : v.view.ty.Contents (Elt F)} {w : s.Idx → Elt F e} (h : ∀ x, w x = v.view.read (Elt F) g x) :
    ∀ i ∈ v.view.set, v.view.write (Elt F) fd w Finset.univ i = g i := by
  intro i hi
  obtain ⟨x, rfl⟩ := (mem_view_set v i).mp hi
  rw [View.write_emb_of_mem _ _ (Finset.mem_univ x), h, View.read_apply, cast_cast, cast_eq]

/-! ## The copies -/

/-- The fetch of the row numbers carries block `w` of them into the scratch. -/
theorem fetch_value {off : Fin 3 → ℕ} {h} {w : ℕ} (hw : w < 32) (ho : off = ![w, 0, 0]) (x : S20x128.Idx) :
    (idxM off h).view.read (Elt F) ix x = (sV).view.read (Elt F) (listOf ix w) x := by
  subst ho
  obtain ⟨h0, h1, h2⟩ := idxM_emb (h := h) x
  show ix ((idxM ![w, 0, 0] h).view.emb x) = listOf ix w x
  unfold listOf
  congr 1
  funext a
  apply Fin.ext
  fin_cases a
  · exact h0.trans (Nat.mod_eq_of_lt hw).symm
  · exact h1.trans (Nat.zero_add _)
  · exact h2.trans (Nat.zero_add _)

/-- The word of a list's slice under `x`. -/
theorem list_value {off : Fin 2 → ℕ} {h} {w t : ℕ} (ht : t < 20) (ho : off = ![t, 0]) (x : S128.Idx) :
    (rowM off h).view.read (Elt F) (listOf ix w) x = ix (ix3 (blockNo w) (stepNo t) (x 0)) := by
  subst ho
  obtain ⟨h0, h1⟩ := rowM_emb (h := h) x
  show listOf ix w ((rowM ![t, 0] h).view.emb x) = _
  unfold listOf
  congr 1
  funext a
  apply Fin.ext
  fin_cases a
  · rfl
  · exact h0.trans (Nat.mod_eq_of_lt ht).symm
  · exact h1.trans (Nat.zero_add _)

/-- The row a list names at place `k`. -/
theorem rows_value {off : Fin 2 → ℕ} {h} {w t : ℕ} (ht : t < 20) (ho : off = ![t, 0])
    (hin : ∀ x, ((rowM off h).view.read (Elt F) (listOf ix w) x).toNat < 100000) (k : Fin 128) :
    SparseCore.rows (F := F) ((rowM off h).view.read (Elt F) (listOf ix w)) rfl hin k
      = rowNo (ix (ix3 (blockNo w) (stepNo t) k)) := by
  have hk : S128.rowMajor.symm k = ix1 k := by
    exact (Equiv.symm_apply_eq S128.rowMajor).mpr (Fin.ext (Shape.rowMajor_val_one (ix1 k)).symm)
  have hv : (rowM off h).view.read (Elt F) (listOf ix w) (S128.rowMajor.symm k) = ix (ix3 (blockNo w) (stepNo t) k) := by
    rw [hk]; exact list_value ix ht ho (ix1 k)
  have hlt := hin (S128.rowMajor.symm k)
  rw [hv] at hlt
  rw [rowNo_of_lt hlt]
  apply Fin.ext
  show ((rowM off h).view.read (Elt F) (listOf ix w) (S128.rowMajor.symm k)).toNat = _
  rw [hv]

/-- The gather of time step `t` carries the rows of block `w` at `t` into its buffer. -/
theorem gather_value {off : Fin 3 → ℕ} {h} {offT : Fin 2 → ℕ} {hT} {offL : Fin 2 → ℕ} {hL} {w t : ℕ} (ht : t < 20)
    (ho : off = ![t % 6, 0, 0]) (hoT : offT = ![0, 0]) (hoL : offL = ![t, 0])
    (hin : ∀ x, ((rowM offL hL).view.read (Elt F) (listOf ix w) x).toNat < 100000) (x : S128x128.Idx) :
    SparseCore.gatherPayload (F := F) gathers_S100000x128_S128x128 ((tableM offT hT).view.read (Elt F) X)
        (SparseCore.rows (F := F) ((rowM offL hL).view.read (Elt F) (listOf ix w)) rfl hin) x
      = (slotM off h).view.read (Elt F) (rowsOf ix X w t) x := by
  subst ho hoT
  obtain ⟨-, h1, h2⟩ := slotM_emb (h := h) x
  show X ((tableM ![0, 0] hT).view.emb (gathers_S100000x128_S128x128.idx _ x)) = rowsOf ix X w t ((slotM ![t % 6, 0, 0] h).view.emb x)
  rw [tableM_emb rfl]
  unfold rowsOf
  have e1 : ((slotM ![t % 6, 0, 0] h).view.emb x) 1 = x 0 := Fin.ext (h1.trans (Nat.zero_add _))
  have e2 : ((slotM ![t % 6, 0, 0] h).view.emb x) 2 = x 1 := Fin.ext (h2.trans (Nat.zero_add _))
  rw [e1, e2, ← rows_value ix ht hoL hin (x 0)]
  congr 1
  funext a
  apply Fin.ext
  fin_cases a <;> rfl

/-- The write of time step `t` carries a buffer's rows into the result. -/
theorem write_value {off : Fin 3 → ℕ} {h} {offO : Fin 3 → ℕ} {hO} {w t : ℕ} (hw : w < 32) (ht : t < 20)
    (ho : off = ![t % 6, 0, 0]) (hoO : offO = ![t, 128 * w, 0]) (x : S128x128.Idx) :
    (slotM off h).view.read (Elt F) (rowsOf ix X w t) x = (outM offO hO).view.read (Elt F) (result ix X) x := by
  subst ho hoO
  obtain ⟨-, h1, h2⟩ := slotM_emb (h := h) x
  obtain ⟨g0, g1, g2⟩ := outM_emb (h := hO) x
  show rowsOf ix X w t ((slotM ![t % 6, 0, 0] h).view.emb x) = result ix X ((outM ![t, 128 * w, 0] hO).view.emb x)
  have hx : (x 0).val < 128 := (x 0).isLt
  have e1 : ((slotM ![t % 6, 0, 0] h).view.emb x) 1 = x 0 := Fin.ext (h1.trans (Nat.zero_add _))
  have e2 : ((slotM ![t % 6, 0, 0] h).view.emb x) 2 = x 1 := Fin.ext (h2.trans (Nat.zero_add _))
  have k0 : ((outM ![t, 128 * w, 0] hO).view.emb x) 0 = stepNo t := Fin.ext (g0.trans (Nat.mod_eq_of_lt ht).symm)
  have k1 : (((outM ![t, 128 * w, 0] hO).view.emb x) 1).val = 128 * w + (x 0).val := g1
  have k2 : ((outM ![t, 128 * w, 0] hO).view.emb x) 2 = x 1 := Fin.ext (g2.trans (Nat.zero_add _))
  unfold rowsOf result
  rw [e1, e2, k0, k2]
  congr 5
  · apply Fin.ext
    show w % 32 = _ / 128
    omega
  · apply Fin.ext
    show (x 0).val = _ % 128
    omega

/-- Every word of a tile's lists is a row number when every row number given is. -/
theorem list_in_table {off : Fin 2 → ℕ} {h} {w t : ℕ} (ht : t < 20) (ho : off = ![t, 0]) (hix : ∀ j, (ix j).toNat < 100000)
    (x : S128.Idx) : ((rowM off h).view.read (Elt F) (listOf ix w) x).toNat < 100000 := by
  rw [list_value ix ht ho x]; exact hix _

end Cert.Proof.Embed
-- ==== Proof.Steps.lean ====
/-
  The copies of one tile as rules: what a tile holds before an issue or a wait, and what it holds after. The resources are
  named by time step, the buffer and the gather's semaphore being those of the step's turn.
-/
module

public import proofs.«01_k».proof.Proof.Values

@[expose] public section

noncomputable section

namespace Cert.Proof.Embed

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (ix : S32x20x128.Idx → Elt F .i32) (X : S100000x128.Idx → Elt F .f32)
variable (d : Dev nD) (L : grid0.Coords)

/-! ## The resources of a tile -/

/-- The tile's read share of the table, and the part of it that a buffer's gather reads by. -/
abbrev tileShare : PosShare TreeShare := Transfers.shareTokN fullShare (wid L)
abbrev gatherShare (t : ℕ) : PosShare TreeShare := Transfers.shareTokN (tileShare L) (t % 6)

/-- The buffer of step `t` with the contents `f`. -/
def slotP (t : ℕ) (f : S6x128x128.Idx → Elt F .f32) : sProp (MM F) := rLoc d L ↦[slotSet t]{fullShare} f
/-- The row numbers of step `t`. -/
def rowP (t : ℕ) : sProp (MM F) := sLoc d L ↦[rowSet t]{fullShare} listOf ix (wid L)
/-- The share of the table of the buffer of step `t`. -/
def tokP (t : ℕ) : sProp (MM F) := xLoc d ↦{gatherShare L t} X
/-- The tile's block of the result at step `t` with the contents `f`. -/
def outP (t : ℕ) (f : S20x4096x128.Idx → Elt F .f32) : sProp (MM F) := oLoc d ↦[outSet (wid L) t]{fullShare} f
/-- The semaphore of the buffer of step `t`, at zero. -/
def gsemP (t : ℕ) : sProp (MM F) := semVal (thr d L, SemLoc.dma (gcell t)) 0

/-- What every copy of 128 rows counts on its semaphore. -/
abbrev rowsCredit : ℕ := 524288

/-- The gather of step `t` in flight: it will deliver the step's rows in their buffer, and give back the share of the
    table and the step's row numbers. -/
def gathering (t : ℕ) : sProp (MM F) :=
  Transfers.Flight countersEmb (thr d L) (.dma (gcell t)) (none : HIx 1) rowsCredit
    iprop(slotP d L t (rowsOf ix X (wid L) t) ∗ tokP X d L t ∗ rowP ix d L t)

/-- The gather of step `t` is issued. -/
theorem issue_gather {α : Type} {Q : α → sProp (MM F)} {t : ℕ} (ht : t < 20) {off : Fin 3 → ℕ} {h} {offT : Fin 2 → ℕ} {hT} {offL : Fin 2 → ℕ} {hL}
    {offS : Fin 1 → ℕ} {hS} (ho : off = ![t % 6, 0, 0]) (hoT : offT = ![0, 0]) (hoL : offL = ![t, 0]) (hoS : offS = ![t % 6])
    (hix : ∀ j, (ix j).toNat < 100000) (f : S6x128x128.Idx → Elt F .f32)
    {hp : (thr d L).2.kind = .scVector} {hn} {hsrc : (tableM offT hT).view.WordExact} {he hsp hr}
    {k : PUnit → Prog (TpuEff nD τ sig (Elt F) Λ₀ (.scVector (cV L) (jV L))) α} :
    iprop(slotP d L t f ∗ rowP ix d L t ∗ tokP X d L t ∗ gsemP d L t)
      ⊢ iprop((gathering ix X d L t -∗ wp frame (wpE (defs₀ (F := F)) 𝒱₀ (thr d L) none) Set.univ (k ⟨⟩) Q)
          -∗ wp frame (wpE (defs₀ (F := F)) 𝒱₀ (thr d L) none) Set.univ
              (SparseCore.enqueueIndirectGather (p := .scVector (cV L) (jV L)) hp (tableM offT hT) (slotM off h) gathers_S100000x128_S128x128 (rowM offL hL) hn (gsemM offS hS)
                hsrc he hsp hr >>= k) Q) := by
  have eS : gsemM offS hS = gcell t := gsemM_eq hoS
  have e1 : slotP d L t f = ((slotM off h).view.loc (thr d L) ↦[(slotM off h).view.set]{fullShare} f : sProp (MM F)) := by
    rw [slotM_set ho]; rfl
  have e2 : rowP ix d L t = ((rowM offL hL).view.loc (thr d L) ↦[(rowM offL hL).view.set]{fullShare} listOf ix (wid L) : sProp (MM F)) := by
    rw [rowM_set hoL]; rfl
  have e3 : tokP X d L t = ((tableM offT hT).view.loc (thr d L) ↦[(tableM offT hT).view.set]{gatherShare L t} X : sProp (MM F)) := by
    rw [tableM_set hoT]; rfl
  have hin : ∀ x, ((rowM offL hL).view.read (Elt F) (listOf ix (wid L)) x).toNat < 100000 := list_in_table ix ht hoL hix
  have e4 : ((slotM off h).view.loc (thr d L) ↦[(slotM off h).view.set]{fullShare}
        ((slotM off h).view.write (Elt F) f (SparseCore.gatherPayload (F := F) gathers_S100000x128_S128x128 ((tableM offT hT).view.read (Elt F) X)
          (SparseCore.rows (F := F) ((rowM offL hL).view.read (Elt F) (listOf ix (wid L))) hn hin)) Finset.univ) : sProp (MM F))
      = slotP d L t (rowsOf ix X (wid L) t) := by
    rw [pointsTo_congr (write_agrees (slotM off h) (gather_value ix X ht ho hoT hoL hin)), slotM_set ho]; rfl
  rw [eS]
  iintro ⟨Hs, Hr, Ht, Hv⟩ Hk
  iapply (SparseCore.wp_indirectGatherLocal countersEmb 𝒱₀ (thr d L) none (hg := gathers_S100000x128_S128x128) (src := tableM offT hT) (dst := slotM off h)
    (offs := rowM offL hL) (sem := gcell t) (q := gatherShare L t) (qo := fullShare) (fs := X) (fd := f) (fo := listOf ix (wid L)) (none : HIx 1) rowsCredit
    (SparseCore.sum_rowCredit_eq_dmaCredit (slotM off h) _ (fun _ => rfl)) (by decide) hin) $$ [Hs Hr Ht Hv]
  · rw [← e1, ← e2, ← e3]
    isplitl [Ht]; · iexact Ht
    isplitl [Hs]; · iexact Hs
    isplitl [Hr]; · iexact Hr
    unfold gsemP; iexact Hv
  iintro Hf
  iapply Hk
  unfold gathering
  iapply (Transfers.Flight_mono countersEmb (thr d L) (Entails.of_eq (by rw [e4, e2, e3]))) $$ Hf

/-- The gather of step `t` is waited for: its rows are in their buffer, and its semaphore is free again. -/
theorem wait_gather {α : Type} {Q : α → sProp (MM F)} {t : ℕ} {off : Fin 3 → ℕ} {h} {offT : Fin 2 → ℕ} {hT}
    {offS : Fin 1 → ℕ} {hS} (hoS : offS = ![t % 6]) {O : CellTallies nD τ sig (HIx 1)} {W : Waits sig (HIx 1)}
    {hsrc : (tableM offT hT).view.WordExact} {hdst : (slotM off h).view.WordExact}
    {k : PUnit → Prog (TpuEff nD τ sig (Elt F) Λ₀ (.scVector (cV L) (jV L))) α} :
    iprop(gathering ix X d L t ∗ owes (thr d L) O W ∗ Transfers.MayWaits (thr d L) (none : HIx 1) O)
      ⊢ iprop((iprop(slotP d L t (rowsOf ix X (wid L) t) ∗ tokP X d L t ∗ rowP ix d L t ∗ gsemP d L t
              ∗ owes (thr d L) O (insert (SemLoc.dma (gcell t), (none : HIx 1)) W)) -∗ wp frame (wpE (defs₀ (F := F)) 𝒱₀ (thr d L) none) Set.univ (k ⟨⟩) Q)
          -∗ wp frame (wpE (defs₀ (F := F)) 𝒱₀ (thr d L) none) Set.univ
              (SparseCore.waitIndirectGather (p := .scVector (cV L) (jV L)) (gsemM offS hS) (tableM offT hT) (slotM off h) hsrc hdst >>= k) Q) := by
  have eS : gsemM offS hS = gcell t := gsemM_eq hoS
  rw [eS, show SparseCore.waitIndirectGather (nD := nD) (F := F) (Λ := Λ₀) (p := .scVector (cV L) (jV L)) (gcell t) (tableM offT hT) (slotM off h) hsrc hdst >>= k
    = .op (.waitDma2 (gcell t) (tableM offT hT) (slotM off h) hsrc hdst) k from rfl]
  iintro ⟨Hg, Ho, Hm⟩ Hk
  ihave Hm' := (Transfers.MayWaits.elim (SemLoc.dma (gcell t))) $$ Hm
  unfold gathering
  iapply (Transfers.wp_waitLocalO countersEmb 𝒱₀ (thr d L) none (srcw := tableM offT hT) (dstw := slotM off h) (sem := gcell t) (none : HIx 1) (N := rowsCredit) rfl) $$ [Hg Ho Hm']
  · isplitl [Hg]; · iexact Hg
    isplitl [Ho] <;> iassumption
  iintro ⟨⟨Hs, Ht, Hr⟩, Hv, Ho⟩
  iapply Hk
  unfold gsemP
  isplitl [Hs]; · iexact Hs
  isplitl [Ht]; · iexact Ht
  isplitl [Hr]; · iexact Hr
  isplitl [Hv] <;> iassumption

/-! ## The writes -/

/-- The semaphore of the writes. -/
abbrev wcell : DmaSem sig := cc0_scratch3.sem

/-- What the write of step `t` delivers: the step's rows of the result, and the buffer they were written from. -/
def written (t : ℕ) : sProp (MM F) := iprop(outP d L t (result ix X) ∗ slotP d L t (rowsOf ix X (wid L) t))

instance written_storable (t : ℕ) : BI.Storable (upEmb : UEmb _ (MM F)) (written ix X d L t) := by
  unfold written outP slotP; infer_instance

/-- The write of step `t` in flight, the only one. -/
def writing (t : ℕ) : sProp (MM F) :=
  Transfers.Flight countersEmb (thr d L) (.dma wcell) (none : HIx 1) rowsCredit (written ix X d L t)

/-- The last six writes as one batch, `k` of them issued and `u` units of their credit waited for. -/
def lastWrites (k u : ℕ) : sProp (MM F) :=
  Transfers.Batch countersEmb (thr d L) (.dma wcell) (none : HIx 1) rowsCredit (fun j : Fin 6 => written ix X d L (14 + j.val)) k u

/-- What a write leaves, in the terms of the copy itself, is what `written` states. -/
theorem written_of_copy {t : ℕ} (ht : t < 20) {off : Fin 3 → ℕ} {h} {offO : Fin 3 → ℕ} {hO}
    (ho : off = ![t % 6, 0, 0]) (hoO : offO = ![t, 128 * wid L, 0]) (f : S20x4096x128.Idx → Elt F .f32) :
    (iprop(((outM offO hO).view.loc (thr d L) ↦[(outM offO hO).view.set]{fullShare}
          ((outM offO hO).view.write (Elt F) f ((ReadAs.same : ReadAs (Elt F) S128x128 .f32 S128x128 .f32).apply ((slotM off h).view.read (Elt F) (rowsOf ix X (wid L) t))) Finset.univ))
        ∗ ((slotM off h).view.loc (thr d L) ↦[(slotM off h).view.set]{fullShare} rowsOf ix X (wid L) t)) : sProp (MM F)) = written ix X d L t := by
  rw [pointsTo_congr (write_agrees (outM offO hO) (write_value ix X (wid_lt L) ht ho hoO)), slotM_set ho, outM_set hoO]; rfl

/-- The write of step `t` is issued, no other being in flight. -/
theorem issue_write {α : Type} {Q : α → sProp (MM F)} {t : ℕ} (ht : t < 20) {off : Fin 3 → ℕ} {h} {offO : Fin 3 → ℕ} {hO}
    (ho : off = ![t % 6, 0, 0]) (hoO : offO = ![t, 128 * wid L, 0]) (f : S20x4096x128.Idx → Elt F .f32)
    {hsrc : (slotM off h).view.WordExact} {hdst : (outM offO hO).view.WordExact} {hsem}
    {k : PUnit → Prog (TpuEff nD τ sig (Elt F) Λ₀ (.scVector (cV L) (jV L))) α} :
    iprop(slotP d L t (rowsOf ix X (wid L) t) ∗ outP d L t f ∗ semVal (thr d L, SemLoc.dma wcell) 0)
      ⊢ iprop((writing ix X d L t -∗ wp frame (wpE (defs₀ (F := F)) 𝒱₀ (thr d L) none) Set.univ (k ⟨⟩) Q)
          -∗ wp frame (wpE (defs₀ (F := F)) 𝒱₀ (thr d L) none) Set.univ
              (Prog.lift (.enqueueDma (p := .scVector (cV L) (jV L)) (slotM off h) (.here (outM offO hO)) (.dma wcell) hsrc hdst hsem) >>= k) Q) := by
  have e1 : slotP d L t (rowsOf ix X (wid L) t)
      = ((slotM off h).view.loc (thr d L) ↦[(slotM off h).view.set]{fullShare} rowsOf ix X (wid L) t : sProp (MM F)) := by
    rw [slotM_set ho]; rfl
  have e2 : outP d L t f = ((outM offO hO).view.loc (thr d L) ↦[(outM offO hO).view.set]{fullShare} f : sProp (MM F)) := by
    rw [outM_set hoO]; rfl
  iintro ⟨Hs, Hd, Hv⟩ Hk
  iapply (Transfers.wp_dmaLocal countersEmb 𝒱₀ (thr d L) none (src := slotM off h) (dst := outM offO hO) (sm := .dma wcell) (via := ReadAs.same)
    (q := fullShare) (fs := rowsOf ix X (wid L) t) (fd := f) (Sd := (outM offO hO).view.set) (none : HIx 1) rowsCredit rfl (by decide) (Finset.Subset.refl _)) $$ [Hs Hd Hv]
  · rw [← e1, ← e2]
    isplitl [Hs]; · iexact Hs
    isplitl [Hd] <;> iassumption
  iintro Hf
  iapply Hk
  unfold writing
  iapply (Transfers.Flight_mono countersEmb (thr d L) (Entails.of_eq (written_of_copy ix X d L ht ho hoO f))) $$ Hf

/-- The write of step `t` is waited for, no other being in flight. -/
theorem wait_write {α : Type} {Q : α → sProp (MM F)} {t : ℕ} {off : Fin 3 → ℕ} {h} {offO : Fin 3 → ℕ} {hO}
    {O : CellTallies nD τ sig (HIx 1)} {W : Waits sig (HIx 1)}
    {hsrc : (slotM off h).view.WordExact} {hdst : (outM offO hO).view.WordExact}
    {k : PUnit → Prog (TpuEff nD τ sig (Elt F) Λ₀ (.scVector (cV L) (jV L))) α} :
    iprop(writing ix X d L t ∗ owes (thr d L) O W ∗ Transfers.MayWaits (thr d L) (none : HIx 1) O)
      ⊢ iprop((iprop(written ix X d L t ∗ semVal (thr d L, SemLoc.dma wcell) 0 ∗ owes (thr d L) O (insert (SemLoc.dma wcell, (none : HIx 1)) W))
            -∗ wp frame (wpE (defs₀ (F := F)) 𝒱₀ (thr d L) none) Set.univ (k ⟨⟩) Q)
          -∗ wp frame (wpE (defs₀ (F := F)) 𝒱₀ (thr d L) none) Set.univ
              (Prog.lift (.waitDma2 (p := .scVector (cV L) (jV L)) wcell (slotM off h) (outM offO hO) hsrc hdst) >>= k) Q) := by
  iintro ⟨Hg, Ho, Hm⟩ Hk
  ihave Hm' := (Transfers.MayWaits.elim (SemLoc.dma wcell)) $$ Hm
  unfold writing
  iapply (Transfers.wp_waitLocalO countersEmb 𝒱₀ (thr d L) none (srcw := slotM off h) (dstw := outM offO hO) (sem := wcell) (none : HIx 1) (N := rowsCredit) rfl) $$ [Hg Ho Hm']
  · isplitl [Hg]; · iexact Hg
    isplitl [Ho] <;> iassumption
  iexact Hk

/-- The batch of the last six writes is opened. -/
theorem open_lastWrites :
    (semVal (thr d L, SemLoc.dma wcell) 0 : sProp (MM F)) ⊢ |={Set.univ}=> lastWrites ix X d L 0 0 := by
  unfold lastWrites
  exact Transfers.batch_alloc' countersEmb (thr d L) (none : HIx 1) rowsCredit _

/-- The write of step `14 + j` is issued, as the batch's `j`-th. -/
theorem issue_lastWrite {α : Type} {Q : α → sProp (MM F)} {t j : ℕ} (hj : j < 6) (htj : t = 14 + j) {off : Fin 3 → ℕ} {h} {offO : Fin 3 → ℕ} {hO}
    (ho : off = ![t % 6, 0, 0]) (hoO : offO = ![t, 128 * wid L, 0]) (f : S20x4096x128.Idx → Elt F .f32)
    {hsrc : (slotM off h).view.WordExact} {hdst : (outM offO hO).view.WordExact} {hsem}
    {k : PUnit → Prog (TpuEff nD τ sig (Elt F) Λ₀ (.scVector (cV L) (jV L))) α} :
    iprop(slotP d L t (rowsOf ix X (wid L) t) ∗ outP d L t f ∗ lastWrites ix X d L j 0)
      ⊢ iprop((lastWrites ix X d L (j + 1) 0 -∗ wp frame (wpE (defs₀ (F := F)) 𝒱₀ (thr d L) none) Set.univ (k ⟨⟩) Q)
          -∗ wp frame (wpE (defs₀ (F := F)) 𝒱₀ (thr d L) none) Set.univ
              (Prog.lift (.enqueueDma (p := .scVector (cV L) (jV L)) (slotM off h) (.here (outM offO hO)) (.dma wcell) hsrc hdst hsem) >>= k) Q) := by
  have ht : t < 20 := by omega
  have e1 : slotP d L t (rowsOf ix X (wid L) t)
      = ((slotM off h).view.loc (thr d L) ↦[(slotM off h).view.set]{fullShare} rowsOf ix X (wid L) t : sProp (MM F)) := by
    rw [slotM_set ho]; rfl
  have e2 : outP d L t f = ((outM offO hO).view.loc (thr d L) ↦[(outM offO hO).view.set]{fullShare} f : sProp (MM F)) := by
    rw [outM_set hoO]; rfl
  iintro ⟨Hs, Hd, Hb⟩ Hk
  unfold lastWrites
  iapply (Transfers.wp_dmaBatch countersEmb 𝒱₀ (thr d L) none (src := slotM off h) (dst := outM offO hO) (sm := .dma wcell) (via := ReadAs.same)
    (q := fullShare) (fs := rowsOf ix X (wid L) t) (fd := f) (Sd := (outM offO hO).view.set) (D := fun j : Fin 6 => written ix X d L (14 + j.val)) (j := j) (u := 0)
    (none : HIx 1) rowsCredit rfl (Finset.Subset.refl _) hj (Nat.zero_le _)
    (Entails.of_eq (by rw [written_of_copy ix X d L ht ho hoO f, htj]))) $$ [Hs Hd Hb]
  · rw [← e1, ← e2]
    isplitl [Hs]; · iexact Hs
    isplitl [Hd] <;> iassumption
  iexact Hk

/-- One of the first five waits for the last six writes: it teaches nothing yet. -/
theorem wait_lastWrites {α : Type} {Q : α → sProp (MM F)} {n : ℕ} (hn : n < 5) {off : Fin 3 → ℕ} {h} {offO : Fin 3 → ℕ} {hO}
    {O : CellTallies nD τ sig (HIx 1)} {W : Waits sig (HIx 1)}
    {hsrc : (slotM off h).view.WordExact} {hdst : (outM offO hO).view.WordExact}
    {k : PUnit → Prog (TpuEff nD τ sig (Elt F) Λ₀ (.scVector (cV L) (jV L))) α} :
    iprop(lastWrites ix X d L 6 (n * rowsCredit) ∗ owes (thr d L) O W ∗ Transfers.MayWaits (thr d L) (none : HIx 1) O)
      ⊢ iprop((iprop(lastWrites ix X d L 6 ((n + 1) * rowsCredit) ∗ owes (thr d L) O (insert (SemLoc.dma wcell, (none : HIx 1)) W))
            -∗ wp frame (wpE (defs₀ (F := F)) 𝒱₀ (thr d L) none) Set.univ (k ⟨⟩) Q)
          -∗ wp frame (wpE (defs₀ (F := F)) 𝒱₀ (thr d L) none) Set.univ
              (Prog.lift (.waitDma2 (p := .scVector (cV L) (jV L)) wcell (slotM off h) (outM offO hO) hsrc hdst) >>= k) Q) := by
  rw [Nat.succ_mul]
  iintro ⟨Hb, Ho, Hm⟩ Hk
  ihave Hm' := (Transfers.MayWaits.elim (SemLoc.dma wcell)) $$ Hm
  unfold lastWrites
  iapply (Transfers.wp_waitBatchO countersEmb 𝒱₀ (thr d L) none (srcw := slotM off h) (dstw := outM offO hO) (sem := wcell) (none : HIx 1) (N := rowsCredit) rfl
    (u := n * rowsCredit) (by show n * 524288 + 524288 < 524288 * 6; omega)) $$ [Hb Ho Hm']
  · isplitl [Hb]; · iexact Hb
    isplitl [Ho] <;> iassumption
  iexact Hk

/-- The sixth wait for the last six writes: all six have landed. -/
theorem wait_lastWrites_all {α : Type} {Q : α → sProp (MM F)} {off : Fin 3 → ℕ} {h} {offO : Fin 3 → ℕ} {hO}
    {O : CellTallies nD τ sig (HIx 1)} {W : Waits sig (HIx 1)}
    {hsrc : (slotM off h).view.WordExact} {hdst : (outM offO hO).view.WordExact}
    {k : PUnit → Prog (TpuEff nD τ sig (Elt F) Λ₀ (.scVector (cV L) (jV L))) α} :
    iprop(lastWrites ix X d L 6 (5 * rowsCredit) ∗ owes (thr d L) O W ∗ Transfers.MayWaits (thr d L) (none : HIx 1) O)
      ⊢ iprop((iprop(bigSep Finset.univ (fun j : Fin 6 => written ix X d L (14 + j.val)) ∗ semVal (thr d L, SemLoc.dma wcell) 0
              ∗ owes (thr d L) O (insert (SemLoc.dma wcell, (none : HIx 1)) W))
            -∗ wp frame (wpE (defs₀ (F := F)) 𝒱₀ (thr d L) none) Set.univ (k ⟨⟩) Q)
          -∗ wp frame (wpE (defs₀ (F := F)) 𝒱₀ (thr d L) none) Set.univ
              (Prog.lift (.waitDma2 (p := .scVector (cV L) (jV L)) wcell (slotM off h) (outM offO hO) hsrc hdst) >>= k) Q) := by
  iintro ⟨Hb, Ho, Hm⟩ Hk
  ihave Hm' := (Transfers.MayWaits.elim (SemLoc.dma wcell)) $$ Hm
  unfold lastWrites
  iapply (Transfers.wp_waitBatchLastO countersEmb 𝒱₀ (thr d L) none (srcw := slotM off h) (dstw := outM offO hO) (sem := wcell) (none : HIx 1) (N := rowsCredit) rfl
    (by decide) (u := 5 * rowsCredit) (by show 5 * 524288 + 524288 = 524288 * 6; rfl)) $$ [Hb Ho Hm']
  · isplitl [Hb]; · iexact Hb
    isplitl [Ho] <;> iassumption
  iexact Hk

end Cert.Proof.Embed
-- ==== Proof.Loop.lean ====
/-
  The loop of one tile. Before trip `k` the gathers of the steps `k … k + 4` are in flight, each to its own buffer and on its
  own semaphore; the sixth buffer is the one the write of step `k - 1` is reading. Up to trip 14 each write is waited for in
  the next trip; the writes of the last six steps are waited for together, after the loop.
-/
module

public import proofs.«01_k».proof.Proof.Steps

@[expose] public section

noncomputable section

namespace Cert.Proof.Embed

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Separating conjunctions over intervals -/

section Intervals
variable {M : Type} [URA M] (Φ : ℕ → sProp M)

/-- The first of an interval apart. -/
theorem sep_Ico_head {a b : ℕ} (h : a < b) : bigSep (Finset.Ico a b) Φ = iprop(Φ a ∗ bigSep (Finset.Ico (a + 1) b) Φ) := by
  have e : Finset.Ico a b = insert a (Finset.Ico (a + 1) b) := by
    ext i; simp only [Finset.mem_Ico, Finset.mem_insert]; omega
  rw [e, SparseCore.bigSep_insert' (by simp)]

/-- The last of an interval apart. -/
theorem sep_Ico_last {a b : ℕ} (h : a ≤ b) : bigSep (Finset.Ico a (b + 1)) Φ = iprop(Φ b ∗ bigSep (Finset.Ico a b) Φ) := by
  have e : Finset.Ico a (b + 1) = insert b (Finset.Ico a b) := by
    ext i; simp only [Finset.mem_Ico, Finset.mem_insert]; omega
  rw [e, SparseCore.bigSep_insert' (by simp)]

/-- The last of a range apart. -/
theorem sep_range_last (n : ℕ) : bigSep (Finset.range (n + 1)) Φ = iprop(Φ n ∗ bigSep (Finset.range n) Φ) := by
  rw [Finset.range_add_one, SparseCore.bigSep_insert' (by simp)]

/-- An interval with nothing in it. -/
theorem sep_Ico_empty {a b : ℕ} (h : b ≤ a) : bigSep (Finset.Ico a b) Φ = iprop(emp) := by
  rw [Finset.Ico_eq_empty (by omega)]; rfl

end Intervals

/-! ## The invariant -/

variable (ix : S32x20x128.Idx → Elt F .i32) (X : S100000x128.Idx → Elt F .f32) (o₀ : S20x4096x128.Idx → Elt F .f32)
variable (d : Dev nD) (L : grid0.Coords) (O : CellTallies nD τ sig (HIx 1)) (W : Waits sig (HIx 1))

/-- The buffer of step `t` is the buffer of step `t + 6`. -/
theorem slotP_six (t : ℕ) (f : S6x128x128.Idx → Elt F .f32) : slotP d L (t + 6) f = slotP d L t f := by
  unfold slotP; rw [slotSet_mod (Nat.add_mod_right t 6)]

/-- What a gather needs besides its buffer and row numbers: the semaphore at zero and the share of the table. -/
def freeP (t : ℕ) : sProp (MM F) := iprop(gsemP d L t ∗ tokP X d L t)

theorem freeP_six (t : ℕ) : freeP X d L (t + 6) = freeP X d L t := by
  unfold freeP gsemP tokP; rw [gcell_mod (Nat.add_mod_right t 6), gatherShare, Nat.add_mod_right]

/-- Step `t`'s turn: its gather in flight, or, past the last step, the means of one. -/
def turnP (t : ℕ) : sProp (MM F) := if t < 20 then gathering ix X d L t else freeP X d L t

theorem turnP_lt {t : ℕ} (h : t < 20) : turnP ix X d L t = gathering ix X d L t := by unfold turnP; rw [if_pos h]
theorem turnP_ge {t : ℕ} (h : 20 ≤ t) : turnP ix X d L t = freeP X d L t := by unfold turnP; rw [if_neg (by omega)]

/-- The row numbers at hand: those of the first `a` steps and of the steps from `b` on. -/
def listsP (a b : ℕ) : sProp (MM F) := iprop(bigSep (Finset.range a) (rowP ix d L) ∗ bigSep (Finset.Ico b 20) (rowP ix d L))

/-- The result's blocks at hand: the first `a` written, those from `b` on as they were. -/
def outsP (a b : ℕ) : sProp (MM F) :=
  iprop(bigSep (Finset.range a) (fun t => outP d L t (result ix X)) ∗ bigSep (Finset.Ico b 20) (fun t => outP d L t o₀))

/-- The writes before trip `k`. -/
def writesP : ℕ → sProp (MM F)
  | 0 => iprop(semVal (thr d L, SemLoc.dma wcell) 0 ∗ ∃ f, slotP d L 5 f)
  | k + 1 => if k < 14 then writing ix X d L k else lastWrites ix X d L (k - 13) 0

/-- The writes within trip `k`, once the one before has been waited for. -/
def pendingP (k : ℕ) : sProp (MM F) :=
  if k ≤ 14 then semVal (thr d L, SemLoc.dma wcell) 0 else lastWrites ix X d L (k - 14) 0

/-- What the tile owes, no wait but those of its own copies having been added. -/
def owesP : sProp (MM F) := iprop(∃ W', ⌜∀ p ∈ W', p ∈ W ∨ p.2 = none⌝ ∗ owes (thr d L) O W')

/-- The loop's invariant before trip `k`. -/
def inv (k : ℕ) : sProp (MM F) :=
  iprop(Transfers.MayWaits (thr d L) (none : HIx 1) O ∗ freeP X d L (k + 5) ∗ bigSep (Finset.Ico k (k + 5)) (turnP ix X d L)
    ∗ listsP ix d L k (k + 5) ∗ outsP ix X o₀ d L (min (k - 1) 14) k ∗ writesP ix X d L k ∗ owesP d L O W)

/-- A wait of the tile's own copies keeps what it owes. -/
theorem owesP_insert {W' : Waits sig (HIx 1)} (h : ∀ p ∈ W', p ∈ W ∨ p.2 = none) (s : SemLoc sig) :
    (owes (thr d L) O (insert (s, (none : HIx 1)) W') : sProp (MM F)) ⊢ owesP d L O W := by
  unfold owesP
  iintro Ho
  iexists _
  isplitr
  swap; · iexact Ho
  ipureintro
  intro p hp
  rcases Finset.mem_insert.mp hp with hp | hp
  · exact .inr (hp ▸ rfl)
  · exact h p hp

/-! ## The trips' programs -/

/-- The wait for step `k`'s gather and the issue of its write. -/
def tripTail (k : Fin k0_t1_loop.trips) : Prog (TpuEff nD τ sig (Elt F) Λ₀ (.scVector (cV L) (jV L))) Unit :=
  SparseCore.waitIndirectGather (p := .scVector (cV L) (jV L)) (gsemM (k0_off8 k) (k0_off8_inb k)) (tableM ![0, 0] inb_S100000x128_S100000x128_0_0)
      (slotM (k0_off6 k) (k0_off6_inb k)) (View.wordExact_bits rfl) ((View.wordExact_bits rfl).reshape _ _) >>= fun _ =>
  Prog.lift (.enqueueDma (p := .scVector (cV L) (jV L)) (slotM (k0_off6 k) (k0_off6_inb k)) (.here (outM (k0_off9 L k) (k0_off9_inb L k))) (.dma wcell)
      ((View.wordExact_bits rfl).reshape _ _) ((View.wordExact_bits rfl).reshape _ _) ⟨Or.inl rfl, trivial⟩) >>= fun _ =>
  pure ⟨⟩

/-- The issue of step `k + 5`'s gather, and the rest of the trip. -/
def tripIssue (k : Fin k0_t1_loop.trips) (h : k0_cond2 k = 1#1) : Prog (TpuEff nD τ sig (Elt F) Λ₀ (.scVector (cV L) (jV L))) Unit :=
  SparseCore.enqueueIndirectGather (p := .scVector (cV L) (jV L)) rfl (tableM ![0, 0] inb_S100000x128_S100000x128_0_0) (slotM (k0_off3 k) (k0_off3_inb k h))
      gathers_S100000x128_S128x128 (rowM (k0_off4 k) (k0_off4_inb k h)) rfl (gsemM (k0_off5 k) (k0_off5_inb k h)) (View.wordExact_bits rfl) rfl (Or.inl rfl) >>= fun _ =>
  tripTail L k

/-- The loop's body on the kernel's own operands. -/
abbrev body (k : Fin k0_t1_loop.trips) : Prog (TpuEff nD τ sig (Elt F) Λ₀ (.scVector (cV L) (jV L))) Unit :=
  k0_t1_body L iV (Memref.isWhole_whole _) xV (Memref.isWhole_whole _) oV (Memref.isWhole_whole _) sV (Memref.isWhole_whole _) rV (Memref.isWhole_whole _)
    cc0_scratch2 cc0_scratch3 cc0_scoped0 k ()

/-- When a trip waits for the write before it, and when it issues a gather. -/
theorem cond1_iff : ∀ k : Fin k0_t1_loop.trips, k0_cond1 k = 1#1 ↔ 1 ≤ k.val ∧ k.val ≤ 14 := by decide +kernel
theorem cond2_iff : ∀ k : Fin k0_t1_loop.trips, k0_cond2 k = 1#1 ↔ k.val ≤ 14 := by decide +kernel
theorem trip_lt (k : Fin k0_t1_loop.trips) : k.val < 20 := k.isLt

/-- The first trip issues a gather and waits for no write. -/
theorem body_first (k : Fin k0_t1_loop.trips) (h1 : ¬ k0_cond1 k = 1#1) (h2 : k0_cond2 k = 1#1) : body (F := F) L k = tripIssue L k h2 := by
  simp only [body, k0_t1_body, dif_neg h1, dif_pos h2, bind_assoc, pure_bind]; rfl

/-- A middle trip waits for the write before it and issues a gather. -/
theorem body_middle (k : Fin k0_t1_loop.trips) (h1 : k0_cond1 k = 1#1) (h2 : k0_cond2 k = 1#1) : body (F := F) L k
    = (Prog.lift (.waitDma2 (p := .scVector (cV L) (jV L)) wcell (slotM ![0, 0, 0] inb_S6x128x128_S1x128x128_0_0_0) (outM (k0_off2 L) (k0_off2_inb L k h1))
        ((View.wordExact_bits rfl).reshape _ _) ((View.wordExact_bits rfl).reshape _ _)) >>= fun _ => tripIssue L k h2) := by
  simp only [body, k0_t1_body, dif_pos h1, dif_pos h2, bind_assoc, pure_bind]; rfl

/-- A late trip does neither. -/
theorem body_late (k : Fin k0_t1_loop.trips) (h1 : ¬ k0_cond1 k = 1#1) (h2 : ¬ k0_cond2 k = 1#1) : body (F := F) L k = tripTail L k := by
  simp only [body, k0_t1_body, dif_neg h1, dif_neg h2, bind_assoc, pure_bind]; rfl

end Cert.Proof.Embed
-- ==== Proof.Trips.lean ====
/-
  One trip of the loop carries the invariant from `k` to `k + 1`; hence the whole loop carries it from 0 to 20.
-/
module

public import proofs.«01_k».proof.Proof.Loop

@[expose] public section

noncomputable section

namespace Cert.Proof.Embed

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (ix : S32x20x128.Idx → Elt F .i32) (X : S100000x128.Idx → Elt F .f32) (o₀ : S20x4096x128.Idx → Elt F .f32)
variable (d : Dev nD) (L : grid0.Coords) (O : CellTallies nD τ sig (HIx 1)) (W : Waits sig (HIx 1))

/-- The place of a step's block in the result, in terms of the tile's number. -/
theorem off9_eq (k : Fin k0_t1_loop.trips) : k0_off9 L k = ![k.val, 128 * wid L, 0] := by
  rw [k0_off9_eq, wid, show 256 * (L 1).val + 128 * (L 0).val = 128 * (2 * (L 1).val + (L 0).val) by omega]

/-- The write of step `k` is issued: alone in flight up to step 13, as one of the last six from step 14 on. -/
theorem issue_turn {α : Type} {Q : α → sProp (MM F)} {k : ℕ} (hk : k < 20) {off : Fin 3 → ℕ} {h} {offO : Fin 3 → ℕ} {hO}
    (ho : off = ![k % 6, 0, 0]) (hoO : offO = ![k, 128 * wid L, 0])
    {hsrc : (slotM off h).view.WordExact} {hdst : (outM offO hO).view.WordExact} {hsem}
    {kk : PUnit → Prog (TpuEff nD τ sig (Elt F) Λ₀ (.scVector (cV L) (jV L))) α} :
    iprop(slotP d L k (rowsOf ix X (wid L) k) ∗ outP d L k o₀ ∗ pendingP ix X d L k)
      ⊢ iprop((writesP ix X d L (k + 1) -∗ wp frame (wpE (defs₀ (F := F)) 𝒱₀ (thr d L) none) Set.univ (kk ⟨⟩) Q)
          -∗ wp frame (wpE (defs₀ (F := F)) 𝒱₀ (thr d L) none) Set.univ
              (Prog.lift (.enqueueDma (p := .scVector (cV L) (jV L)) (slotM off h) (.here (outM offO hO)) (.dma wcell) hsrc hdst hsem) >>= kk) Q) := by
  rcases Nat.lt_trichotomy k 14 with h1 | h1 | h1
  · simp only [pendingP, writesP, if_pos h1, if_pos (le_of_lt h1)]
    exact issue_write ix X d L hk ho hoO o₀
  · subst h1
    simp only [pendingP, writesP, le_refl, if_true, lt_irrefl, if_false]
    iintro ⟨Hs, Ho, Hv⟩ Hk
    imod (open_lastWrites ix X d L) $$ Hv with Hb
    iapply (issue_lastWrite ix X d L (j := 0) (by omega) rfl ho hoO o₀) $$ [Hs Ho Hb]
    · isplitl [Hs]; · iexact Hs
      isplitl [Ho] <;> iassumption
    iexact Hk
  · simp only [pendingP, writesP, if_neg (show ¬ k < 14 by omega), if_neg (show ¬ k ≤ 14 by omega)]
    rw [show k - 13 = (k - 14) + 1 by omega]
    exact issue_lastWrite ix X d L (by omega) (by omega) ho hoO o₀

/-- What the rest of a trip starts from: six turns, the row numbers outside them, and the writes of the steps before. -/
def midP (k : ℕ) : sProp (MM F) :=
  iprop(Transfers.MayWaits (thr d L) (none : HIx 1) O ∗ bigSep (Finset.Ico k (k + 6)) (turnP ix X d L)
    ∗ listsP ix d L k (k + 6) ∗ outsP ix X o₀ d L (min k 14) k ∗ pendingP ix X d L k ∗ owesP d L O W)

/-- The rest of a trip: the step's gather is waited for and its write issued. -/
theorem tail_step (k : Fin k0_t1_loop.trips) :
    midP ix X o₀ d L O W k.val
      ⊢ wp frame (wpE (defs₀ (F := F)) 𝒱₀ (thr d L) none) Set.univ (tripTail L k) fun _ => inv ix X o₀ d L O W (k.val + 1) := by
  have hk := trip_lt k
  unfold midP tripTail
  rw [sep_Ico_head _ (show k.val < k.val + 6 by omega), turnP_lt _ _ _ _ hk]
  unfold outsP
  rw [sep_Ico_head _ hk]
  conv_lhs => unfold owesP listsP
  iintro ⟨#Hm, ⟨Hg, Hring⟩, ⟨Hl1, Hl2⟩, ⟨Hdone, Ho, Hout⟩, Hp, %W', %hW, HO⟩
  iapply (wait_gather ix X d L (k0_off8_eq k)) $$ [Hg HO]
  · isplitl [Hg]; · iexact Hg
    isplitl [HO]; · iexact HO
    iexact Hm
  iintro ⟨Hs, Ht, Hr, Hv, HO⟩
  iapply (issue_turn ix X o₀ d L hk (k0_off6_eq k) (off9_eq L k)) $$ [Hs Ho Hp]
  · isplitl [Hs]; · iexact Hs
    isplitl [Ho] <;> iassumption
  iintro Hw
  rw [wp_pure]
  imodintro
  unfold inv outsP listsP
  rw [show k.val + 1 + 5 = k.val + 6 by omega, freeP_six, sep_range_last, show k.val + 1 - 1 = k.val by omega]
  unfold freeP
  isplitr; · iexact Hm
  isplitl [Ht Hv]
  · isplitl [Hv] <;> iassumption
  isplitl [Hring]; · iexact Hring
  isplitl [Hl1 Hl2 Hr]
  · isplitl [Hl1 Hr]
    · isplitl [Hr] <;> iassumption
    · iexact Hl2
  isplitl [Hdone Hout]
  · isplitl [Hdone] <;> iassumption
  isplitl [Hw]; · iexact Hw
  iapply (owesP_insert d L O W hW _) $$ HO

/-- The gather of step `k + 5` is issued into the free buffer, and the rest of the trip follows. -/
theorem issue_step (hix : ∀ j, (ix j).toNat < 100000) (k : Fin k0_t1_loop.trips) (h2 : k0_cond2 k = 1#1) (f : S6x128x128.Idx → Elt F .f32) :
    iprop(Transfers.MayWaits (thr d L) (none : HIx 1) O ∗ slotP d L (k.val + 5) f ∗ freeP X d L (k.val + 5) ∗ bigSep (Finset.Ico k.val (k.val + 5)) (turnP ix X d L)
        ∗ listsP ix d L k.val (k.val + 5) ∗ outsP ix X o₀ d L (min k.val 14) k.val ∗ semVal (thr d L, SemLoc.dma wcell) 0 ∗ owesP d L O W)
      ⊢ wp frame (wpE (defs₀ (F := F)) 𝒱₀ (thr d L) none) Set.univ (tripIssue L k h2) fun _ => inv ix X o₀ d L O W (k.val + 1) := by
  have hk : k.val ≤ 14 := (cond2_iff k).mp h2
  unfold tripIssue listsP freeP
  rw [sep_Ico_head _ (show k.val + 5 < 20 by omega)]
  iintro ⟨#Hm, Hs, ⟨Hv, Ht⟩, Hring, ⟨Hl1, Hr, Hl2⟩, Hout, Hp, HO⟩
  iapply (issue_gather ix X d L (show k.val + 5 < 20 by omega) (k0_off3_eq k) rfl (k0_off4_eq k) (k0_off5_eq k) hix f) $$ [Hs Hr Ht Hv]
  · isplitl [Hs]; · iexact Hs
    isplitl [Hr]; · iexact Hr
    isplitl [Ht] <;> iassumption
  iintro Hg
  iapply (tail_step ix X o₀ d L O W k)
  unfold midP listsP pendingP
  rw [show k.val + 6 = k.val + 5 + 1 by omega, sep_Ico_last _ (show k.val ≤ k.val + 5 by omega), turnP_lt _ _ _ _ (show k.val + 5 < 20 by omega), if_pos hk]
  isplitr; · iexact Hm
  isplitl [Hg Hring]
  · isplitl [Hg] <;> iassumption
  isplitl [Hl1 Hl2]
  · isplitl [Hl1] <;> iassumption
  isplitl [Hout]; · iexact Hout
  isplitl [Hp] <;> iassumption

/-- One trip. -/
theorem trip (hix : ∀ j, (ix j).toNat < 100000) (k : Fin k0_t1_loop.trips) :
    inv ix X o₀ d L O W k.val
      ⊢ wp frame (wpE (defs₀ (F := F)) 𝒱₀ (thr d L) none) Set.univ (body L k) fun _ => inv ix X o₀ d L O W (k.val + 1) := by
  have hk := trip_lt k
  by_cases h2 : k0_cond2 k = 1#1
  · have h14 := (cond2_iff k).mp h2
    by_cases h1 : k0_cond1 k = 1#1
    · have h0 := (cond1_iff k).mp h1
      rw [body_middle L k h1 h2]
      obtain ⟨n, hn⟩ : ∃ n, k.val = n + 1 := ⟨k.val - 1, by omega⟩
      have ew : writesP ix X d L k.val = writing ix X d L n := by rw [hn, writesP, if_pos (by omega)]
      have eo : outsP ix X o₀ d L (min k.val 14) k.val
          = iprop((outP d L n (result ix X) ∗ bigSep (Finset.range n) (fun t => outP d L t (result ix X)))
              ∗ bigSep (Finset.Ico k.val 20) (fun t => outP d L t o₀)) := by
        rw [outsP, min_eq_left h14, hn, sep_range_last]
      unfold inv
      rw [ew, show min (k.val - 1) 14 = n by omega]
      conv_lhs => unfold owesP outsP
      iintro ⟨#Hm, Hf, Hring, Hl, ⟨Hd, Hout⟩, Hw, %W', %hW, HO⟩
      iapply (wait_write ix X d L) $$ [Hw HO]
      · isplitl [Hw]; · iexact Hw
        isplitl [HO]; · iexact HO
        iexact Hm
      unfold written
      iintro ⟨⟨Ho, Hs⟩, Hv, HO⟩
      iapply (issue_step ix X o₀ d L O W hix k h2 (rowsOf ix X (wid L) n))
      rw [eo, show k.val + 5 = n + 6 by omega, slotP_six]
      isplitr; · iexact Hm
      isplitl [Hs]; · iexact Hs
      isplitl [Hf]; · iexact Hf
      isplitl [Hring]; · iexact Hring
      isplitl [Hl]; · iexact Hl
      isplitl [Hd Ho Hout]
      · isplitl [Hd Ho]
        · isplitl [Ho] <;> iassumption
        · iexact Hout
      isplitl [Hv]; · iexact Hv
      iapply (owesP_insert d L O W hW _) $$ HO
    · have h0 : k.val = 0 := by
        by_contra h
        exact h1 ((cond1_iff k).mpr ⟨by omega, h14⟩)
      rw [body_first L k h1 h2]
      have ew : writesP ix X d L k.val = iprop(semVal (thr d L, SemLoc.dma wcell) 0 ∗ ∃ f, slotP d L (k.val + 5) f) := by rw [h0]; rfl
      unfold inv
      rw [ew, show min (k.val - 1) 14 = min k.val 14 by omega]
      iintro ⟨#Hm, Hf, Hring, Hl, Ho, ⟨Hv, %f, Hs⟩, HO⟩
      iapply (issue_step ix X o₀ d L O W hix k h2 f)
      isplitr; · iexact Hm
      isplitl [Hs]; · iexact Hs
      isplitl [Hf]; · iexact Hf
      isplitl [Hring]; · iexact Hring
      isplitl [Hl]; · iexact Hl
      isplitl [Ho]; · iexact Ho
      isplitl [Hv] <;> iassumption
  · have h15 : 15 ≤ k.val := by
      by_contra h
      exact h2 ((cond2_iff k).mpr (by omega))
    have h1 : ¬ k0_cond1 k = 1#1 := fun h => by
      have := ((cond1_iff k).mp h).2
      omega
    rw [body_late L k h1 h2]
    have ew : writesP ix X d L k.val = pendingP ix X d L k.val := by
      obtain ⟨n, hn⟩ : ∃ n, k.val = n + 1 := ⟨k.val - 1, by omega⟩
      rw [hn, writesP, pendingP, if_neg (by omega), if_neg (by omega), show n - 13 = n + 1 - 14 by omega]
    refine BIBase.Entails.trans ?_ (tail_step ix X o₀ d L O W k)
    unfold inv midP listsP
    rw [ew, show min (k.val - 1) 14 = min k.val 14 by omega, show k.val + 6 = k.val + 5 + 1 by omega, sep_Ico_last _ (show k.val ≤ k.val + 5 by omega),
      turnP_ge _ _ _ _ (show 20 ≤ k.val + 5 by omega), sep_Ico_empty _ (show 20 ≤ k.val + 5 by omega), sep_Ico_empty _ (show 20 ≤ k.val + 5 + 1 by omega)]
    iintro ⟨Hm, Hf, Hring, Hl, Hrest⟩
    isplitl [Hm]; · iexact Hm
    isplitl [Hf Hring]
    · isplitl [Hf] <;> iassumption
    isplitl [Hl] <;> iassumption

/-- The loop. -/
theorem loop {α : Type} {Q : α → sProp (MM F)} (hix : ∀ j, (ix j).toNat < 100000)
    {kk : Unit → Prog (TpuEff nD τ sig (Elt F) Λ₀ (.scVector (cV L) (jV L))) α} :
    inv ix X o₀ d L O W 0
      ⊢ iprop((inv ix X o₀ d L O W 20 -∗ wp frame (wpE (defs₀ (F := F)) 𝒱₀ (thr d L) none) Set.univ (kk ⟨⟩) Q)
          -∗ wp frame (wpE (defs₀ (F := F)) 𝒱₀ (thr d L) none) Set.univ
              (Scf.Loop.for k0_t1_loop k0_t1_ok ⟨⟩ (k0_t1_body L iV (Memref.isWhole_whole _) xV (Memref.isWhole_whole _) oV (Memref.isWhole_whole _)
                sV (Memref.isWhole_whole _) rV (Memref.isWhole_whole _) cc0_scratch2 cc0_scratch3 cc0_scoped0) >>= kk) Q) := by
  iintro Hi Hk
  iapply (Scf.wp_for_bind frame (wpE (defs₀ (F := F)) 𝒱₀ (thr d L) none) Set.univ _ _ _ _ _ _ (fun k (_ : Unit) => inv ix X o₀ d L O W k)
    (fun k _ => trip ix X o₀ d L O W hix k)) $$ Hi
  iintro %_ Hi
  iapply Hk
  iexact Hi

end Cert.Proof.Embed
-- ==== Proof.Ends.lean ====
/-
  What a tile does around its loop. Before it: its block of the row numbers is fetched, and the gathers of the first five
  steps are issued. After it: the last six writes are waited for, and everything the tile was handed is put together again.
-/
module

public import proofs.«01_k».proof.Proof.Trips

@[expose] public section

noncomputable section

namespace Cert.Proof.Embed

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (ix : S32x20x128.Idx → Elt F .i32) (X : S100000x128.Idx → Elt F .f32) (o₀ : S20x4096x128.Idx → Elt F .f32)
variable (d : Dev nD) (L : grid0.Coords) (O : CellTallies nD τ sig (HIx 1)) (W : Waits sig (HIx 1))

/-! ## The fetch of the row numbers -/

/-- The semaphore of the fetch. -/
abbrev fcell : DmaSem sig := cc0_scoped0.sem

/-- The tile's block of the row numbers. -/
def blockP : sProp (MM F) := iLoc d ↦[idxSet (wid L)]{fullShare} ix

/-- The scratch with the row numbers of the tile's block in it. -/
def fetchedP : sProp (MM F) := sLoc d L ↦{fullShare} listOf ix (wid L)

/-- The fetch in flight. -/
def fetching : sProp (MM F) :=
  Transfers.Flight countersEmb (thr d L) (.dma fcell) (none : HIx 1) (sV).view.dmaCredit iprop(fetchedP ix d L ∗ blockP ix d L)

/-- The place of the tile's block in the row numbers. -/
theorem off1_eq : k0_off1 L = ![wid L, 0, 0] := k0_off1_eq L

/-- The fetch is issued. -/
theorem issue_fetch {α : Type} {Q : α → sProp (MM F)} {off : Fin 3 → ℕ} {h} (ho : off = ![wid L, 0, 0]) (f : S20x128.Idx → Elt F .i32)
    {hsrc : (idxM off h).view.WordExact} {hdst : (sV).view.WordExact} {hsem}
    {k : PUnit → Prog (TpuEff nD τ sig (Elt F) Λ₀ (.scVector (cV L) (jV L))) α} :
    iprop(blockP ix d L ∗ (sLoc d L ↦{fullShare} f) ∗ semVal (thr d L, SemLoc.dma fcell) 0)
      ⊢ iprop((fetching ix d L -∗ wp frame (wpE (defs₀ (F := F)) 𝒱₀ (thr d L) none) Set.univ (k ⟨⟩) Q)
          -∗ wp frame (wpE (defs₀ (F := F)) 𝒱₀ (thr d L) none) Set.univ
              (Prog.lift (.enqueueDma (p := .scVector (cV L) (jV L)) (idxM off h) (.here sV) (.dma fcell) hsrc hdst hsem) >>= k) Q) := by
  have e1 : blockP ix d L = ((idxM off h).view.loc (thr d L) ↦[(idxM off h).view.set]{fullShare} ix : sProp (MM F)) := by
    rw [idxM_set ho]; rfl
  have eW : (sV).view.set = Finset.univ := View.set_whole _
  have e2 : ((sV).view.loc (thr d L) ↦[(sV).view.set]{fullShare}
      ((sV).view.write (Elt F) f ((ReadAs.same : ReadAs (Elt F) S20x128 .i32 S20x128 .i32).apply ((idxM off h).view.read (Elt F) ix)) Finset.univ) : sProp (MM F))
      = fetchedP ix d L := by
    rw [pointsTo_congr (write_agrees sV (fetch_value ix (wid_lt L) ho)), eW]; rfl
  iintro ⟨Hi, Hs, Hv⟩ Hk
  iapply (Transfers.wp_dmaLocal countersEmb 𝒱₀ (thr d L) none (src := idxM off h) (dst := sV) (sm := .dma fcell) (via := ReadAs.same)
    (q := fullShare) (fs := ix) (fd := f) (Sd := (sV).view.set) (none : HIx 1) (sV).view.dmaCredit rfl (by decide) (Finset.Subset.refl _)) $$ [Hi Hs Hv]
  · rw [← e1, eW]
    isplitl [Hi]; · iexact Hi
    isplitl [Hs] <;> iassumption
  iintro Hf
  iapply Hk
  unfold fetching
  iapply (Transfers.Flight_mono countersEmb (thr d L) (Entails.of_eq (by rw [e2, e1]))) $$ Hf

/-- The fetch is waited for. -/
theorem wait_fetch {α : Type} {Q : α → sProp (MM F)} {off : Fin 3 → ℕ} {h} {O : CellTallies nD τ sig (HIx 1)} {W : Waits sig (HIx 1)}
    {hsrc : (idxM off h).view.WordExact} {hdst : (sV).view.WordExact}
    {k : PUnit → Prog (TpuEff nD τ sig (Elt F) Λ₀ (.scVector (cV L) (jV L))) α} :
    iprop(fetching ix d L ∗ owes (thr d L) O W ∗ Transfers.MayWaits (thr d L) (none : HIx 1) O)
      ⊢ iprop((iprop(fetchedP ix d L ∗ blockP ix d L ∗ semVal (thr d L, SemLoc.dma fcell) 0 ∗ owes (thr d L) O (insert (SemLoc.dma fcell, (none : HIx 1)) W))
            -∗ wp frame (wpE (defs₀ (F := F)) 𝒱₀ (thr d L) none) Set.univ (k ⟨⟩) Q)
          -∗ wp frame (wpE (defs₀ (F := F)) 𝒱₀ (thr d L) none) Set.univ
              (Prog.lift (.waitDma2 (p := .scVector (cV L) (jV L)) fcell (idxM off h) sV hsrc hdst) >>= k) Q) := by
  iintro ⟨Hg, Ho, Hm⟩ Hk
  ihave Hm' := (Transfers.MayWaits.elim (SemLoc.dma fcell)) $$ Hm
  unfold fetching
  iapply (Transfers.wp_waitLocalO countersEmb 𝒱₀ (thr d L) none (srcw := idxM off h) (dstw := sV) (sem := fcell) (none : HIx 1) (N := (sV).view.dmaCredit) rfl) $$ [Hg Ho Hm']
  · isplitl [Hg]; · iexact Hg
    isplitl [Ho] <;> iassumption
  iintro ⟨⟨Hs, Hi⟩, Hv, Ho⟩
  iapply Hk
  isplitl [Hs]; · iexact Hs
  isplitl [Hi]; · iexact Hi
  isplitl [Hv] <;> iassumption

/-! ## Before the loop -/

/-- What is left of the tile's share of the table when each of the six buffers has its part. -/
def restP : sProp (MM F) := xLoc d ↦{Transfers.shareDrop (tileShare L) 6} X

/-- The tile's share of the table is the parts of the six buffers and the rest. -/
theorem table_parts : (xLoc d ↦{tileShare L} X : sProp (MM F)) = iprop(restP X d L ∗ bigSep (Finset.range 6) (tokP X d L)) := by
  have e : bigSep (Finset.range 6) (tokP X d L) = bigSep (Finset.range 6) (fun t => (xLoc d ↦{Transfers.shareTokN (tileShare L) t} X : sProp (MM F))) :=
    bigSep_congr fun t ht => by rw [tokP, gatherShare, Nat.mod_eq_of_lt (Finset.mem_range.mp ht)]
  rw [e, restP]
  exact BI.Entails.antisymm (Transfers.pointsTo_toks_range (tileShare L) 6).1 (Transfers.pointsTo_toks_range (tileShare L) 6).2

/-- The row buffers are the six buffers. -/
theorem slots_parts (f : S6x128x128.Idx → Elt F .f32) :
    (rLoc d L ↦{fullShare} f : sProp (MM F)) = bigSep (Finset.Ico 0 6) (fun t => slotP d L t f) := by
  unfold slotP
  rw [← pointsTo_biUnion (ℓ := rLoc d L) (Finset.Ico 0 6) slotSet (fun t ht u hu h => slotSet_disjoint (by simp only [Finset.mem_Ico] at ht hu; omega)),
    show (Finset.Ico 0 6).biUnion slotSet = Finset.univ from biUnion_slotSet 0]

/-- The scratch row numbers are those of the twenty steps. -/
theorem lists_parts : fetchedP ix d L = bigSep (Finset.range 20) (rowP ix d L) := by
  unfold fetchedP rowP
  rw [← pointsTo_biUnion (ℓ := sLoc d L) (Finset.range 20) rowSet (fun t _ u _ h => rowSet_disjoint h), biUnion_rowSet]

/-- The tile's block of the result is that of the twenty steps. -/
theorem outs_parts (f : S20x4096x128.Idx → Elt F .f32) :
    (oLoc d ↦[blockSet (wid L)]{fullShare} f : sProp (MM F)) = bigSep (Finset.range 20) (fun t => outP d L t f) := by
  unfold outP
  rw [← pointsTo_biUnion (ℓ := oLoc d) (Finset.range 20) (outSet (wid L)) (fun t _ u _ h => outSet_disjoint h), biUnion_outSet]

/-- Before the loop, `n` gathers issued. -/
def started (f : S6x128x128.Idx → Elt F .f32) (n : ℕ) : sProp (MM F) :=
  iprop(bigSep (Finset.Ico 0 n) (gathering ix X d L) ∗ bigSep (Finset.Ico n 6) (fun t => slotP d L t f) ∗ bigSep (Finset.Ico n 6) (freeP X d L)
    ∗ bigSep (Finset.Ico n 20) (rowP ix d L))

/-- Nothing issued: the row buffers, the semaphores at zero, the table's parts and the row numbers. -/
theorem started_zero (f : S6x128x128.Idx → Elt F .f32) :
    iprop((rLoc d L ↦{fullShare} f) ∗ bigSep (Finset.range 6) (gsemP d L) ∗ bigSep (Finset.range 6) (tokP X d L) ∗ fetchedP ix d L)
      ⊢ started ix X d L f 0 := by
  unfold started
  rw [slots_parts, lists_parts, sep_Ico_empty _ (Nat.le_refl 0)]
  unfold freeP
  rw [bigSep_sep', Finset.range_eq_Ico, Finset.range_eq_Ico]
  iintro ⟨Hs, Hv, Ht, Hl⟩
  isplitr; · iempintro
  isplitl [Hs]; · iexact Hs
  isplitl [Hv Ht]
  · isplitl [Hv] <;> iassumption
  iexact Hl

/-- One of the gathers before the loop. -/
theorem start_step {α : Type} {Q : α → sProp (MM F)} (hix : ∀ j, (ix j).toNat < 100000) (f : S6x128x128.Idx → Elt F .f32) (n : ℕ) (hn : n < 6)
    {off : Fin 3 → ℕ} {h} {offT : Fin 2 → ℕ} {hT} {offL : Fin 2 → ℕ} {hL} {offS : Fin 1 → ℕ} {hS}
    (ho : off = ![n % 6, 0, 0]) (hoT : offT = ![0, 0]) (hoL : offL = ![n, 0]) (hoS : offS = ![n % 6])
    {hp : (thr d L).2.kind = .scVector} {hn'} {hsrc : (tableM offT hT).view.WordExact} {he hsp hr}
    {k : PUnit → Prog (TpuEff nD τ sig (Elt F) Λ₀ (.scVector (cV L) (jV L))) α} :
    started ix X d L f n
      ⊢ iprop((started ix X d L f (n + 1) -∗ wp frame (wpE (defs₀ (F := F)) 𝒱₀ (thr d L) none) Set.univ (k ⟨⟩) Q)
          -∗ wp frame (wpE (defs₀ (F := F)) 𝒱₀ (thr d L) none) Set.univ
              (SparseCore.enqueueIndirectGather (p := .scVector (cV L) (jV L)) hp (tableM offT hT) (slotM off h) gathers_S100000x128_S128x128 (rowM offL hL) hn' (gsemM offS hS)
                hsrc he hsp hr >>= k) Q) := by
  unfold started
  rw [sep_Ico_head _ hn, sep_Ico_head (freeP X d L) hn, sep_Ico_head _ (show n < 20 by omega), sep_Ico_last _ (Nat.zero_le n)]
  unfold freeP
  iintro ⟨Hg, ⟨Hs, Hss⟩, ⟨⟨Hv, Ht⟩, Hff⟩, Hl, Hll⟩ Hk
  iapply (issue_gather ix X d L (show n < 20 by omega) ho hoT hoL hoS hix f) $$ [Hs Hl Ht Hv]
  · isplitl [Hs]; · iexact Hs
    isplitl [Hl]; · iexact Hl
    isplitl [Ht] <;> iassumption
  iintro Hn
  iapply Hk
  isplitl [Hn Hg]
  · isplitl [Hn] <;> iassumption
  isplitl [Hss]; · iexact Hss
  isplitl [Hff]; · iexact Hff
  iexact Hll

/-- The five gathers issued, the loop's invariant holds. -/
theorem inv_start (f : S6x128x128.Idx → Elt F .f32) :
    iprop(Transfers.MayWaits (thr d L) (none : HIx 1) O ∗ started ix X d L f 5 ∗ semVal (thr d L, SemLoc.dma wcell) 0
        ∗ (oLoc d ↦[blockSet (wid L)]{fullShare} o₀) ∗ owesP d L O W)
      ⊢ inv ix X o₀ d L O W 0 := by
  have et : bigSep (Finset.Ico 0 5) (turnP ix X d L) = bigSep (Finset.Ico 0 5) (gathering ix X d L) :=
    bigSep_congr fun t ht => turnP_lt ix X d L (by simp only [Finset.mem_Ico] at ht; omega)
  unfold started inv listsP outsP writesP
  rw [outs_parts, sep_Ico_head _ (show 5 < 6 by omega), sep_Ico_head (freeP X d L) (show 5 < 6 by omega), sep_Ico_empty _ (Nat.le_refl 6), sep_Ico_empty _ (Nat.le_refl 6),
    show min (0 - 1) 14 = 0 by rfl, Nat.zero_add, et, Finset.range_zero, Finset.range_eq_Ico]
  iintro ⟨Hm, ⟨Hg, ⟨Hs, -⟩, ⟨Hf, -⟩, Hl⟩, Hv, Ho, HO⟩
  isplitl [Hm]; · iexact Hm
  isplitl [Hf]; · iexact Hf
  isplitl [Hg]; · iexact Hg
  isplitl [Hl]
  · isplitr; · iapply (Entails.of_eq (BI.bigSep_empty (Φ := rowP ix d L)).symm); iempintro
    iexact Hl
  isplitl [Ho]
  · isplitr; · iapply (Entails.of_eq (BI.bigSep_empty (Φ := fun t => outP d L t (result ix X))).symm); iempintro
    iexact Ho
  isplitl [Hv Hs]
  · isplitl [Hv]; · iexact Hv
    iexists f; iexact Hs
  iexact HO

/-! ## After the loop -/

/-- One of the first five waits after the loop. -/
theorem end_step {α : Type} {Q : α → sProp (MM F)} {n : ℕ} (hn : n < 5) {off : Fin 3 → ℕ} {h} {offO : Fin 3 → ℕ} {hO}
    {hsrc : (slotM off h).view.WordExact} {hdst : (outM offO hO).view.WordExact}
    {k : PUnit → Prog (TpuEff nD τ sig (Elt F) Λ₀ (.scVector (cV L) (jV L))) α} :
    iprop(lastWrites ix X d L 6 (n * rowsCredit) ∗ owesP d L O W ∗ Transfers.MayWaits (thr d L) (none : HIx 1) O)
      ⊢ iprop((iprop(lastWrites ix X d L 6 ((n + 1) * rowsCredit) ∗ owesP d L O W) -∗ wp frame (wpE (defs₀ (F := F)) 𝒱₀ (thr d L) none) Set.univ (k ⟨⟩) Q)
          -∗ wp frame (wpE (defs₀ (F := F)) 𝒱₀ (thr d L) none) Set.univ
              (Prog.lift (.waitDma2 (p := .scVector (cV L) (jV L)) wcell (slotM off h) (outM offO hO) hsrc hdst) >>= k) Q) := by
  conv_lhs => unfold owesP
  iintro ⟨Hb, ⟨%W', %hW, HO⟩, Hm⟩ Hk
  iapply (wait_lastWrites ix X d L hn) $$ [Hb HO Hm]
  · isplitl [Hb]; · iexact Hb
    isplitl [HO] <;> iassumption
  iintro ⟨Hb, HO⟩
  iapply Hk
  isplitl [Hb]; · iexact Hb
  iapply (owesP_insert d L O W hW _) $$ HO

/-- The last wait after the loop. -/
theorem end_last {α : Type} {Q : α → sProp (MM F)} {off : Fin 3 → ℕ} {h} {offO : Fin 3 → ℕ} {hO}
    {hsrc : (slotM off h).view.WordExact} {hdst : (outM offO hO).view.WordExact}
    {k : PUnit → Prog (TpuEff nD τ sig (Elt F) Λ₀ (.scVector (cV L) (jV L))) α} :
    iprop(lastWrites ix X d L 6 (5 * rowsCredit) ∗ owesP d L O W ∗ Transfers.MayWaits (thr d L) (none : HIx 1) O)
      ⊢ iprop((iprop(bigSep (Finset.Ico 14 20) (written ix X d L) ∗ semVal (thr d L, SemLoc.dma wcell) 0 ∗ owesP d L O W)
            -∗ wp frame (wpE (defs₀ (F := F)) 𝒱₀ (thr d L) none) Set.univ (k ⟨⟩) Q)
          -∗ wp frame (wpE (defs₀ (F := F)) 𝒱₀ (thr d L) none) Set.univ
              (Prog.lift (.waitDma2 (p := .scVector (cV L) (jV L)) wcell (slotM off h) (outM offO hO) hsrc hdst) >>= k) Q) := by
  have e6 : bigSep Finset.univ (fun j : Fin 6 => written ix X d L (14 + j.val)) = bigSep (Finset.Ico 14 20) (written ix X d L) := by
    have ei : (Finset.univ : Finset (Fin 6)).image (fun j => 14 + j.val) = Finset.Ico 14 20 := by decide
    rw [← ei, SparseCore.bigSep_image_of_injOn (fun a _ b _ h => Fin.ext (by simpa using h))]
  conv_lhs => unfold owesP
  iintro ⟨Hb, ⟨%W', %hW, HO⟩, Hm⟩ Hk
  iapply (wait_lastWrites_all ix X d L) $$ [Hb HO Hm]
  · isplitl [Hb]; · iexact Hb
    isplitl [HO] <;> iassumption
  rw [e6]
  iintro ⟨Hb, Hv, HO⟩
  iapply Hk
  isplitl [Hb]; · iexact Hb
  isplitl [Hv]; · iexact Hv
  iapply (owesP_insert d L O W hW _) $$ HO

/-- The six buffers, whatever each holds, are the row buffers. -/
theorem slots_join (fs : ℕ → S6x128x128.Idx → Elt F .f32) :
    bigSep (Finset.Ico 14 20) (fun t => slotP d L t (fs t)) ⊢ (iprop(∃ f, rLoc d L ↦{fullShare} f) : sProp (MM F)) := by
  unfold slotP
  iintro H
  ihave H' := (pointsTo_biUnion_join (ℓ := rLoc d L) (q := fullShare) (Val := Elt F) (Finset.Ico 14 20) slotSet fs (fs 0)
    (fun t ht u hu h => slotSet_disjoint (by simp only [Finset.mem_Ico] at ht hu; omega))) $$ H
  icases H' with ⟨%g, -, Hg⟩
  rw [show (Finset.Ico 14 20).biUnion slotSet = Finset.univ from biUnion_slotSet 14]
  iexists g; iexact Hg

/-- What the invariant leaves after the loop: the means of the gathers, the row numbers, the first fourteen blocks written,
    and the last six writes in flight. -/
theorem inv_end :
    inv ix X o₀ d L O W 20
      ⊢ iprop(bigSep (Finset.range 6) (gsemP d L) ∗ bigSep (Finset.range 6) (tokP X d L) ∗ fetchedP ix d L
          ∗ bigSep (Finset.range 14) (fun t => outP d L t (result ix X)) ∗ lastWrites ix X d L 6 (0 * rowsCredit) ∗ owesP d L O W) := by
  have et : bigSep (Finset.Ico 20 25) (turnP ix X d L) = bigSep (Finset.Ico 20 25) (freeP X d L) :=
    bigSep_congr fun t ht => turnP_ge ix X d L (by simp only [Finset.mem_Ico] at ht; omega)
  have ef : iprop(freeP X d L 25 ∗ bigSep (Finset.Ico 20 25) (freeP X d L)) = iprop(bigSep (Finset.range 6) (gsemP d L) ∗ bigSep (Finset.range 6) (tokP X d L)) := by
    rw [← sep_Ico_last (freeP X d L) (show 20 ≤ 25 by omega), ← bigSep_sep']
    have ei : (Finset.Ico 20 26).image (fun t => t % 6) = Finset.range 6 := by decide
    rw [← ei, SparseCore.bigSep_image_of_injOn (fun a ha b hb h => by
      simp only [Finset.coe_Ico, Set.mem_Ico] at ha hb
      omega)]
    refine bigSep_congr fun t _ => ?_
    unfold freeP gsemP tokP
    rw [gcell_mod (Nat.mod_mod t 6), gatherShare, gatherShare, Nat.mod_mod]
  have ew : writesP ix X d L 20 = lastWrites ix X d L 6 (0 * rowsCredit) := by
    rw [writesP, if_neg (by omega), Nat.zero_mul]
  unfold inv listsP outsP
  rw [show 20 + 5 = 25 by rfl, et, ew, show min (20 - 1) 14 = 14 by rfl, lists_parts]
  iintro ⟨-, Hf, Hfs, ⟨Hl, -⟩, ⟨Ho, -⟩, Hw, HO⟩
  ihave H := (Entails.of_eq ef) $$ [Hf Hfs]
  · isplitl [Hf] <;> iassumption
  icases H with ⟨Hv, Ht⟩
  isplitl [Hv]; · iexact Hv
  isplitl [Ht]; · iexact Ht
  isplitl [Hl]; · iexact Hl
  isplitl [Ho]; · iexact Ho
  isplitl [Hw] <;> iassumption

/-- The blocks of the first fourteen steps and what the last six writes delivered are the tile's block of the result and the
    row buffers. -/
theorem all_written :
    iprop(bigSep (Finset.range 14) (fun t => outP d L t (result ix X)) ∗ bigSep (Finset.Ico 14 20) (written ix X d L))
      ⊢ iprop((oLoc d ↦[blockSet (wid L)]{fullShare} result ix X) ∗ ∃ f, rLoc d L ↦{fullShare} f) := by
  have e : Finset.range 20 = Finset.range 14 ∪ Finset.Ico 14 20 := by decide
  rw [outs_parts, e, SparseCore.bigSep_union' (by decide)]
  unfold written
  rw [bigSep_sep']
  iintro ⟨H1, H2, H3⟩
  isplitl [H1 H2]
  · isplitl [H1] <;> iassumption
  iapply (slots_join d L (fun t => rowsOf ix X (wid L) t)) $$ H3

end Cert.Proof.Embed
-- ==== Proof.Tile.lean ====
/-
  One tile's task: handed its block of the row numbers, its read share of the table and its block of the result, it leaves
  in that block the rows of the table that its row numbers name.
-/
module

public import proofs.«01_k».proof.Proof.Ends

@[expose] public section

noncomputable section

namespace Cert.Proof.Embed

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (ix : S32x20x128.Idx → Elt F .i32) (X : S100000x128.Idx → Elt F .f32) (o₀ : S20x4096x128.Idx → Elt F .f32)
variable (d : Dev nD) (L : grid0.Coords) (O : CellTallies nD τ sig (HIx 1)) (W : Waits sig (HIx 1))

/-! ## The tile's own semaphores and buffers -/

/-- The semaphores of the six buffers' gathers, of a tile. -/
def gatherCells : Finset (GSem nD τ sig) := (Finset.range 6).image fun t => (thr d L, SemLoc.dma (gcell t))

/-- The semaphores a tile uses: of the gathers, of the writes, of the fetch. -/
def usedCells : Finset (GSem nD τ sig) :=
  insert (thr d L, SemLoc.dma wcell) (insert (thr d L, SemLoc.dma fcell) (gatherCells d L))

theorem wcell_val : (wcell : DmaSem sig).val = 6 := by decide
theorem fcell_val : (fcell : DmaSem sig).val = 7 := by decide

/-- A gather's semaphore is another one than that of the writes and that of the fetch. -/
theorem not_gatherCells {s : DmaSem sig} (hs : 6 ≤ s.val) : (thr d L, SemLoc.dma s) ∉ gatherCells d L := by
  intro h
  obtain ⟨t, -, e⟩ := Finset.mem_image.mp h
  have e1 : (SemLoc.dma (gcell t) : SemLoc sig) = SemLoc.dma s := congrArg Prod.snd e
  have e2 : gcell t = s := SemLoc.dma.inj e1
  have e3 : t % 6 = s.val := congrArg Fin.val e2
  omega

theorem wcell_not_used : (thr d L, SemLoc.dma wcell) ∉ insert (thr d L, SemLoc.dma fcell) (gatherCells d L) := by
  rw [Finset.mem_insert, not_or]
  refine ⟨fun e => ?_, not_gatherCells d L (by rw [wcell_val])⟩
  have e1 : (SemLoc.dma wcell : SemLoc sig) = SemLoc.dma fcell := congrArg Prod.snd e
  exact absurd (SemLoc.dma.inj e1) (by decide)

/-- The semaphores a tile uses are among its own. -/
theorem usedCells_own : usedCells d L ⊆ ownCells (thr d L) := by
  intro g hg
  have key : ∀ s : DmaSem sig, (SemLoc.dma s : SemLoc sig).isScoped .scVector = true := by decide
  rcases Finset.mem_insert.mp hg with rfl | hg
  · exact mem_ownCells.mpr ⟨rfl, key _⟩
  rcases Finset.mem_insert.mp hg with rfl | hg
  · exact mem_ownCells.mpr ⟨rfl, key _⟩
  obtain ⟨t, -, rfl⟩ := Finset.mem_image.mp hg
  exact mem_ownCells.mpr ⟨rfl, key _⟩

/-- The six gathers' semaphores are distinct. -/
theorem gatherCells_injOn : Set.InjOn (fun t => ((thr d L, SemLoc.dma (gcell t)) : GSem nD τ sig)) (Finset.range 6) := by
  intro a ha b hb h
  have ha' : a < 6 := Finset.mem_range.mp ha
  have hb' : b < 6 := Finset.mem_range.mp hb
  have e1 : (SemLoc.dma (gcell a) : SemLoc sig) = SemLoc.dma (gcell b) := congrArg Prod.snd h
  have e3 : a % 6 = b % 6 := congrArg Fin.val (SemLoc.dma.inj e1)
  omega

/-- A tile's own semaphores at zero are those it uses and the others. -/
theorem own_sems :
    (ownSems0 (thr d L) : sProp (MM F))
      = iprop((semVal (thr d L, SemLoc.dma wcell) 0 ∗ semVal (thr d L, SemLoc.dma fcell) 0 ∗ bigSep (Finset.range 6) (gsemP d L))
          ∗ bigSep (ownCells (thr d L) \ usedCells d L) fun g => semVal g 0) := by
  have e1 : bigSep (gatherCells d L) (fun g => (semVal g 0 : sProp (MM F))) = bigSep (Finset.range 6) (gsemP d L) :=
    SparseCore.bigSep_image_of_injOn (gatherCells_injOn d L) _
  have e2 : bigSep (usedCells d L) (fun g => (semVal g 0 : sProp (MM F)))
      = iprop(semVal (thr d L, SemLoc.dma wcell) 0 ∗ semVal (thr d L, SemLoc.dma fcell) 0 ∗ bigSep (gatherCells d L) (fun g => semVal g 0)) :=
    (SparseCore.bigSep_insert' (wcell_not_used d L)).trans
      (congrArg (fun P => iprop(semVal (thr d L, SemLoc.dma wcell) 0 ∗ P)) (SparseCore.bigSep_insert' (not_gatherCells d L (by rw [fcell_val]; omega))))
  rw [← e1, ← e2]
  exact SparseCore.bigSep_sdiff_split' (usedCells_own d L)

/-- A tile's own buffers but the row numbers and the row buffers. -/
abbrev otherBufs : Finset (DevRef τ sig) :=
  ((ownRefs (τ := τ) (.scVector (cV L) (jV L))).erase ((Proc.scVector (cV L) (jV L)).devRef cc0_scratch0)).erase
    ((Proc.scVector (cV L) (jV L)).devRef cc0_scratch1)

/-- A tile's own buffers are the row numbers, the row buffers, and the others, each with some contents. -/
theorem own_bufs :
    (ownBufs (thr d L) : sProp (MM F))
      = iprop((∃ f, sLoc d L ↦{fullShare} f) ∗ (∃ f, rLoc d L ↦{fullShare} f)
          ∗ bigSep (otherBufs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task -/

/-- What a tile is handed of the call's operands. -/
def takenP : sProp (MM F) := iprop(blockP ix d L ∗ (xLoc d ↦{tileShare L} X) ∗ oLoc d ↦[blockSet (wid L)]{fullShare} o₀)

/-- What a tile hands back. -/
def givenP : sProp (MM F) := iprop(blockP ix d L ∗ (xLoc d ↦{tileShare L} X) ∗ oLoc d ↦[blockSet (wid L)]{fullShare} result ix X)

/-- One of the gathers before the loop, as the program writes it. -/
abbrev gatherProg (off : Fin 3 → ℕ) (h : ∀ a, off a + S1x128x128.size a ≤ S6x128x128.size a)
    (offL : Fin 2 → ℕ) (hL : ∀ a, offL a + S1x128.size a ≤ S20x128.size a) (offS : Fin 1 → ℕ) (hS : ∀ a, offS a + S1.size a ≤ S6.size a) :
    Prog (TpuEff nD τ sig (Elt F) Λ₀ (.scVector (cV L) (jV L))) PUnit :=
  SparseCore.enqueueIndirectGather (p := .scVector (cV L) (jV L)) rfl (tableM ![0, 0] inb_S100000x128_S100000x128_0_0) (slotM off h)
    gathers_S100000x128_S128x128 (rowM offL hL) rfl (gsemM offS hS) (View.wordExact_bits rfl) rfl (Or.inl rfl)

/-- One of the waits after the loop, as the program writes it. -/
abbrev endProg : Prog (TpuEff nD τ sig (Elt F) Λ₀ (.scVector (cV L) (jV L))) PUnit :=
  Prog.lift (.waitDma2 (p := .scVector (cV L) (jV L)) wcell (slotM ![0, 0, 0] inb_S6x128x128_S1x128x128_0_0_0) (outM (k0_off10 L) (k0_off10_inb L))
    ((View.wordExact_bits rfl).reshape _ _) ((View.wordExact_bits rfl).reshape _ _))

/-- The kernel on its own operands. -/
abbrev kernel : Prog (TpuEff nD τ sig (Elt F) Λ₀ (.scVector (cV L) (jV L))) PUnit :=
  cc0__gather_kernel L iV (Memref.isWhole_whole _) xV (Memref.isWhole_whole _) oV (Memref.isWhole_whole _) sV (Memref.isWhole_whole _)
    rV (Memref.isWhole_whole _) cc0_scratch2 cc0_scratch3 cc0_scoped0

/-- The kernel in one sequence: the fetch, five gathers, the loop, six waits. -/
def tileProg : Prog (TpuEff nD τ sig (Elt F) Λ₀ (.scVector (cV L) (jV L))) PUnit :=
  Prog.lift (.enqueueDma (p := .scVector (cV L) (jV L)) (idxM (k0_off1 L) (k0_off1_inb L)) (.here sV) (.dma fcell)
      ((View.wordExact_bits rfl).reshape _ _) (Memref.isWhole_whole _).wordExact ⟨Or.inl rfl, trivial⟩) >>= fun _ =>
  Prog.lift (.waitDma2 (p := .scVector (cV L) (jV L)) fcell (idxM (k0_off1 L) (k0_off1_inb L)) sV
      ((View.wordExact_bits rfl).reshape _ _) (Memref.isWhole_whole _).wordExact) >>= fun _ =>
  gatherProg L ![0, 0, 0] inb_S6x128x128_S1x128x128_0_0_0 ![0, 0] inb_S20x128_S1x128_0_0 ![0] inb_S6_S1_0 >>= fun _ =>
  gatherProg L ![1, 0, 0] inb_S6x128x128_S1x128x128_1_0_0 ![1, 0] inb_S20x128_S1x128_1_0 ![1] inb_S6_S1_1 >>= fun _ =>
  gatherProg L ![2, 0, 0] inb_S6x128x128_S1x128x128_2_0_0 ![2, 0] inb_S20x128_S1x128_2_0 ![2] inb_S6_S1_2 >>= fun _ =>
  gatherProg L ![3, 0, 0] inb_S6x128x128_S1x128x128_3_0_0 ![3, 0] inb_S20x128_S1x128_3_0 ![3] inb_S6_S1_3 >>= fun _ =>
  gatherProg L ![4, 0, 0] inb_S6x128x128_S1x128x128_4_0_0 ![4, 0] inb_S20x128_S1x128_4_0 ![4] inb_S6_S1_4 >>= fun _ =>
  Scf.Loop.for k0_t1_loop k0_t1_ok ⟨⟩ (k0_t1_body L iV (Memref.isWhole_whole _) xV (Memref.isWhole_whole _) oV (Memref.isWhole_whole _)
      sV (Memref.isWhole_whole _) rV (Memref.isWhole_whole _) cc0_scratch2 cc0_scratch3 cc0_scoped0) >>= fun _ =>
  endProg L >>= fun _ => endProg L >>= fun _ => endProg L >>= fun _ => endProg L >>= fun _ => endProg L >>= fun _ => endProg L >>= fun _ =>
  pure ⟨⟩

/-- The kernel is that sequence. -/
theorem kernel_eq : kernel (F := F) L = tileProg L := by
  unfold kernel
  rw [cc0__gather_kernel_eq_skeleton]
  simp only [cc0__gather_kernel_skel, k0_part1_eq_skeleton, k0_part1_skel, k0_part2_eq_skeleton, k0_part2_skel, k0_part3_eq_skeleton, k0_part3_skel,
    bind_assoc, pure_bind]
  rfl

/-- The task of one tile. -/
theorem tile_body (hF : (K (F := F)).Facts) (hix : ∀ j, (ix j).toNat < 100000) (hO : ∀ g, O g none = 0) :
    iprop(levAts (K (F := F)).L (K (F := F)).lev ∗ emp ∗ takenP ix X o₀ d L
        ∗ scopedBufs (thr d L) ∗ scopedSems0 (thr d L) ∗ owes (thr d L) O W)
      ⊢ wp frame (wpE (defs₀ (F := F)) 𝒱₀ (thr d L) none) Set.univ (kernel L)
          fun _ => iprop(givenP ix X d L ∗ scopedBufs (thr d L) ∗ scopedSems0 (thr d L)
            ∗ ∃ W', ⌜∀ p ∈ W', p ∈ W ∨ p.2 = none⌝ ∗ owes (thr d L) O W') := by
  rw [kernel_eq, (K (F := F)).scopedBufs_V hF d (cV L) (jV L), SparseCore.Cfg.scopedSems0_V (Val := Elt F) d (cV L) (jV L), own_sems, own_bufs]
  unfold takenP givenP tileProg
  rw [table_parts]
  iintro ⟨#Hlv, -, ⟨Hi, ⟨Hrest, Htoks⟩, Ho⟩, ⟨⟨%fs, Hs⟩, ⟨%fr, Hr⟩, Hbufs⟩, ⟨⟨Hw, Hf, Hg⟩, Hsems⟩, HO⟩
  ihave #Hm := (show levAts (K (F := F)).L (K (F := F)).lev ⊢ Transfers.MayWaits (thr d L) (none : HIx 1) O from
    (K (F := F)).mayWaits_none (thr := thr d L) hO) $$ Hlv
  iapply (issue_fetch ix d L (off1_eq L) fs) $$ [Hi Hs Hf]
  · isplitl [Hi]; · iexact Hi
    isplitl [Hs] <;> iassumption
  iintro Hfl
  iapply (wait_fetch ix d L) $$ [Hfl HO]
  · isplitl [Hfl]; · iexact Hfl
    isplitl [HO]; · iexact HO
    iexact Hm
  iintro ⟨Hl, Hi, Hf, HO⟩
  ihave HO' := (owesP_insert d L O W (fun p hp => Or.inl hp) (SemLoc.dma fcell)) $$ HO
  ihave Hst := (started_zero ix X d L fr) $$ [Hr Hg Htoks Hl]
  · isplitl [Hr]; · iexact Hr
    isplitl [Hg]; · iexact Hg
    isplitl [Htoks] <;> iassumption
  iapply (start_step ix X d L hix fr 0 (by omega) rfl rfl rfl rfl) $$ Hst
  iintro Hst
  iapply (start_step ix X d L hix fr 1 (by omega) rfl rfl rfl rfl) $$ Hst
  iintro Hst
  iapply (start_step ix X d L hix fr 2 (by omega) rfl rfl rfl rfl) $$ Hst
  iintro Hst
  iapply (start_step ix X d L hix fr 3 (by omega) rfl rfl rfl rfl) $$ Hst
  iintro Hst
  iapply (start_step ix X d L hix fr 4 (by omega) rfl rfl rfl rfl) $$ Hst
  iintro Hst
  ihave Hinv := (inv_start ix X o₀ d L O W fr) $$ [Hst Hw Ho HO']
  · isplitr; · iexact Hm
    isplitl [Hst]; · iexact Hst
    isplitl [Hw]; · iexact Hw
    isplitl [Ho] <;> iassumption
  iapply (loop ix X o₀ d L O W hix) $$ Hinv
  iintro Hinv
  ihave H := (inv_end ix X o₀ d L O W) $$ Hinv
  icases H with ⟨Hg, Htoks, Hl, Hdone, Hb, HO⟩
  iapply (end_step ix X d L O W (n := 0) (by omega)) $$ [Hb HO]
  · isplitl [Hb]; · iexact Hb
    isplitl [HO]; · iexact HO
    iexact Hm
  iintro ⟨Hb, HO⟩
  iapply (end_step ix X d L O W (n := 1) (by omega)) $$ [Hb HO]
  · isplitl [Hb]; · iexact Hb
    isplitl [HO]; · iexact HO
    iexact Hm
  iintro ⟨Hb, HO⟩
  iapply (end_step ix X d L O W (n := 2) (by omega)) $$ [Hb HO]
  · isplitl [Hb]; · iexact Hb
    isplitl [HO]; · iexact HO
    iexact Hm
  iintro ⟨Hb, HO⟩
  iapply (end_step ix X d L O W (n := 3) (by omega)) $$ [Hb HO]
  · isplitl [Hb]; · iexact Hb
    isplitl [HO]; · iexact HO
    iexact Hm
  iintro ⟨Hb, HO⟩
  iapply (end_step ix X d L O W (n := 4) (by omega)) $$ [Hb HO]
  · isplitl [Hb]; · iexact Hb
    isplitl [HO]; · iexact HO
    iexact Hm
  iintro ⟨Hb, HO⟩
  iapply (end_last ix X d L O W) $$ [Hb HO]
  · isplitl [Hb]; · iexact Hb
    isplitl [HO]; · iexact HO
    iexact Hm
  iintro ⟨Hlast, Hw, HO⟩
  ihave H := (all_written ix X d L) $$ [Hdone Hlast]
  · isplitl [Hdone] <;> iassumption
  icases H with ⟨Ho, Hr⟩
  rw [wp_pure]
  imodintro
  isplitl [Hi Hrest Htoks Ho]
  · isplitl [Hi]; · iexact Hi
    isplitl [Hrest Htoks]
    · isplitl [Hrest] <;> iassumption
    iexact Ho
  isplitl [Hl Hr Hbufs]
  · isplitl [Hl]
    · iexists _; unfold fetchedP; iexact Hl
    isplitl [Hr] <;> iassumption
  isplitl [Hw Hf Hg Hsems]
  · isplitl [Hw Hf Hg]
    · isplitl [Hw]; · iexact Hw
      isplitl [Hf] <;> iassumption
    iexact Hsems
  unfold owesP
  iexact HO

end Cert.Proof.Embed
-- ==== Proof.Deal.lean ====
/-
  What the call hands to its tiles and gets back: the row numbers and the result dealt block by block, the table by read
  shares. The tiles' parts put together are the operands whole, the result being then what `result` states.
-/
module

public import proofs.«01_k».proof.Proof.Tile

@[expose] public section

noncomputable section

namespace Cert.Proof.Embed

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The tiles -/

/-- The grid point of core `c`, subcore `s`. -/
def gridPt (c : Fin 2) (s : Fin 16) : grid0.Coords :=
  fun | 0 => c | 1 => s | ⟨_ + 2, h⟩ => absurd h (Nat.not_lt.2 (Nat.le_add_left _ _))

/-- Its number. -/
theorem wid_gridPt (c : Fin 2) (s : Fin 16) : wid (gridPt c s) = 2 * s.val + c.val := rfl

/-- What is told for every core and every subcore by the tile's number is told for the 32 numbers. -/
theorem sep_tiles {M : Type} [URA M] (Φ : ℕ → sProp M) :
    (bigSep Finset.univ fun c : Fin 2 => bigSep Finset.univ fun s : Fin 16 => Φ (wid (gridPt c s))) = bigSep (Finset.range 32) Φ := by
  have e : (Finset.univ : Finset (Fin 2 × Fin 16)).image (fun p => 2 * p.2.val + p.1.val) = Finset.range 32 := by decide
  have hi : Set.InjOn (fun p : Fin 2 × Fin 16 => 2 * p.2.val + p.1.val) (Finset.univ : Finset (Fin 2 × Fin 16)) := by
    rintro ⟨a, b⟩ - ⟨a', b'⟩ - h
    have h' : 2 * b.val + a.val = 2 * b'.val + a'.val := h
    have ha := a.isLt
    have ha' := a'.isLt
    exact Prod.ext (Fin.ext (show a.val = a'.val by omega)) (Fin.ext (show b.val = b'.val by omega))
  rw [← e, SparseCore.bigSep_image_of_injOn hi, bigSep_univ_prod]
  rfl

/-! ## The operands, whole and dealt -/

/-- The row numbers are their 32 blocks. -/
theorem deal_ids (d : Dev nD) (f : S32x20x128.Idx → Elt F .i32) :
    (iLoc d ↦{fullShare} f : sProp (MM F)) = bigSep (Finset.range 32) (fun w => iLoc d ↦[idxSet w]{fullShare} f) := by
  have e : (Finset.range 32).biUnion idxSet = Finset.univ := by
    ext i
    have h : (i 0).val < 32 := (i 0).isLt
    simp only [Finset.mem_biUnion, Finset.mem_range, mem_idxSet, Finset.mem_univ, iff_true]
    exact ⟨_, h, rfl⟩
  rw [← pointsTo_biUnion (ℓ := iLoc d) (Finset.range 32) idxSet (fun w _ u _ h => idxSet_disjoint h), e]

/-- The result is its 32 blocks. -/
theorem deal_out (d : Dev nD) (f : S20x4096x128.Idx → Elt F .f32) :
    (oLoc d ↦{fullShare} f : sProp (MM F)) = bigSep (Finset.range 32) (fun w => oLoc d ↦[blockSet w]{fullShare} f) := by
  have e : (Finset.range 32).biUnion blockSet = Finset.univ := by
    ext i
    have h : (i 1).val < 4096 := (i 1).isLt
    simp only [Finset.mem_biUnion, Finset.mem_range, mem_blockSet, Finset.mem_univ, iff_true]
    exact ⟨_, by omega, rfl⟩
  rw [← pointsTo_biUnion (ℓ := oLoc d) (Finset.range 32) blockSet (fun w _ u _ h => blockSet_disjoint h), e]

/-- What is left of the table when each of the 32 tiles has its read share. -/
def keptP (X : S100000x128.Idx → Elt F .f32) (d : Dev nD) : sProp (MM F) := xLoc d ↦{Transfers.shareDrop fullShare 32} X

/-- The table is the 32 read shares and the rest. -/
theorem deal_table (d : Dev nD) (X : S100000x128.Idx → Elt F .f32) :
    (xLoc d ↦{fullShare} X : sProp (MM F)) = iprop(keptP X d ∗ bigSep (Finset.range 32) (fun w => xLoc d ↦{Transfers.shareTokN fullShare w} X)) :=
  BI.Entails.antisymm (Transfers.pointsTo_toks_range fullShare 32).1 (Transfers.pointsTo_toks_range fullShare 32).2

variable (ix : S32x20x128.Idx → Elt F .i32) (X : S100000x128.Idx → Elt F .f32) (o₀ : S20x4096x128.Idx → Elt F .f32) (d : Dev nD)

/-- All the tiles' parts, the result's block holding `f`. -/
theorem tiles_parts (f : S20x4096x128.Idx → Elt F .f32) :
    (bigSep Finset.univ fun c : Fin 2 => bigSep Finset.univ fun s : Fin 16 => takenP ix X f d (gridPt c s))
      = iprop(bigSep (Finset.range 32) (fun w => iLoc d ↦[idxSet w]{fullShare} ix)
          ∗ bigSep (Finset.range 32) (fun w => xLoc d ↦{Transfers.shareTokN fullShare w} X)
          ∗ bigSep (Finset.range 32) (fun w => oLoc d ↦[blockSet w]{fullShare} f)) := by
  rw [← bigSep_sep', ← bigSep_sep']
  exact sep_tiles (fun w => iprop((iLoc d ↦[idxSet w]{fullShare} ix) ∗ (xLoc d ↦{Transfers.shareTokN fullShare w} X) ∗ oLoc d ↦[blockSet w]{fullShare} f))

/-- The operands whole are the tiles' parts and what is kept of the table. -/
theorem deal (f : S20x4096x128.Idx → Elt F .f32) :
    (iprop((iLoc d ↦{fullShare} ix) ∗ (xLoc d ↦{fullShare} X) ∗ oLoc d ↦{fullShare} f) : sProp (MM F))
      ⊣⊢ iprop(keptP X d ∗ bigSep Finset.univ fun c : Fin 2 => bigSep Finset.univ fun s : Fin 16 => takenP ix X f d (gridPt c s)) := by
  rw [tiles_parts, deal_ids, deal_table, deal_out]
  constructor
  · iintro ⟨Hi, ⟨Hk, Hx⟩, Ho⟩
    isplitl [Hk]; · iexact Hk
    isplitl [Hi]; · iexact Hi
    isplitl [Hx] <;> iassumption
  · iintro ⟨Hk, Hi, Hx, Ho⟩
    isplitl [Hi]; · iexact Hi
    isplitl [Hk Hx]
    · isplitl [Hk] <;> iassumption
    iexact Ho

/-! ## What the handshakes carry -/

section Payloads
variable (ixs : Dev nD → S32x20x128.Idx → Elt F .i32) (Xs : Dev nD → S100000x128.Idx → Elt F .f32) (os : Dev nD → S20x4096x128.Idx → Elt F .f32)

/-- A tile's part, by its core and subcore. -/
abbrev partP (f : Dev nD → S20x4096x128.Idx → Elt F .f32) (d : Dev nD) (c : Fin 2) (s : Fin 16) : sProp (MM F) :=
  takenP (ixs d) (Xs d) (f d) d (gridPt c s)

/-- The result on each device. -/
abbrev results (d : Dev nD) : S20x4096x128.Idx → Elt F .f32 := result (ixs d) (Xs d)

instance partP_storable (f : Dev nD → S20x4096x128.Idx → Elt F .f32) (d : Dev nD) (c : Fin 2) (s : Fin 16) :
    BI.Storable (upEmb : UEmb _ (MM F)) (partP ixs Xs f d c s) := by
  unfold partP takenP blockP; infer_instance

/-- A core is sent its sixteen tiles' parts and sends them back with the result's blocks written; so is each tile its own. -/
def P : (K (F := F)).Pay (nD := nD) (Val := Elt F) (Name := ℕ) (U := UU) where
  st := fun q d c => match q with | 0 => bigSep Finset.univ fun s : Fin 16 => partP ixs Xs os d c s
  dn := fun q d c => match q with | 0 => bigSep Finset.univ fun s : Fin 16 => partP ixs Xs (results ixs Xs) d c s
  go := fun q d c s => match q with | 0 => partP ixs Xs os d c s
  td := fun q d c s => match q with | 0 => partP ixs Xs (results ixs Xs) d c s
  x := fun _ _ => iprop(emp)

instance P_storable : (P ixs Xs os).IsStorable where
  st q d c := match q with
    | 0 => (inferInstance : BI.Storable (upEmb : UEmb _ (MM F)) (bigSep Finset.univ fun s : Fin 16 => partP ixs Xs os d c s))
  dn q d c := match q with
    | 0 => (inferInstance : BI.Storable (upEmb : UEmb _ (MM F)) (bigSep Finset.univ fun s : Fin 16 => partP ixs Xs (results ixs Xs) d c s))
  go q d c s := match q with
    | 0 => (inferInstance : BI.Storable (upEmb : UEmb _ (MM F)) (partP ixs Xs os d c s))
  td q d c s := match q with
    | 0 => (inferInstance : BI.Storable (upEmb : UEmb _ (MM F)) (partP ixs Xs (results ixs Xs) d c s))

/-- A core's parts are its tiles'. -/
theorem vecSplit : (K (F := F)).VecSplit' (P ixs Xs os) 0 := by
  intro d c
  show (bigSep Finset.univ fun s : Fin 16 => partP ixs Xs os d c s) ⊢ |={Set.univ}=> iprop(
      (bigSep Finset.univ fun s : Fin 16 => partP ixs Xs os d c s)
      ∗ ((bigSep Finset.univ fun s : Fin 16 => partP ixs Xs (results ixs Xs) d c s)
          -∗ bigSep Finset.univ fun s : Fin 16 => partP ixs Xs (results ixs Xs) d c s))
  iintro H
  imodintro
  isplitl [H]; · iexact H
  iintro H
  iexact H

/-! ## The tile's obligation to the launch -/

/-- The tile's task at the launch is the kernel at its grid point. -/
theorem task_eq (c : Fin τ.nSC) (s : Fin τ.nSub) :
    defs₀ (F := F) (.scVector c s) 0 () = SparseCore.onTile hcore0 hsub0 (fun c s => kernel (gridPt c s)) ⟨⟩ c s := rfl

/-- The recorded waits, as the launch asks about them. -/
theorem waits_weaken {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
/-- Every tile does its task. -/
theorem tileObl (hF : (K (F := F)).Facts) (hix : ∀ d j, (ixs d j).toNat < 100000) : (K (F := F)).TileObl (D (F := F)) 𝒱 (P ixs Xs os) v₀ 0 := by
  intro d c s O W hO _ _
  simp only [show (P ixs Xs os).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [task_eq]
  simp only [SparseCore.onTile, hcs, and_self, ↓reduceDIte]
  exact (tile_body (ixs d) (Xs d) (os d) d (gridPt c s) O W hF (hix d) hO).trans (wp_mono frame _ _ fun _ => waits_weaken)

end Payloads

end Cert.Proof.Embed
-- ==== Proof.Run.lean ====
/-
  The whole program's run. On each device the TensorCore reshapes the row numbers to blocks of 128 batch rows, transposes
  each block so that a time step's row numbers lie side by side, calls the tiles, and transposes their result so that the
  batch comes first. Every fair run ends with that result in place, the arguments unchanged and every semaphore at zero.
-/
module

public import proofs.«01_k».proof.Proof.Deal

@[expose] public section

noncomputable section

namespace Cert.Proof.Embed

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

/-! ## The values -/

/-- The row numbers as the call takes them: block by block, in a block time step by time step. -/
def blocked (ids : S4096x20.Idx → Elt F .i32) : S32x20x128.Idx → Elt F .i32 :=
  transpose S32x20x128 [0, 2, 1] (shapeCast S32x128x20 ids shapeCasts_S4096x20_S32x128x20) transposes_S32x128x20_S32x20x128_0_2_1

/-- What the program returns of its arguments: the tiles' result with the batch first. -/
def embedded (ids : S4096x20.Idx → Elt F .i32) (X : S100000x128.Idx → Elt F .f32) : S4096x20x128.Idx → Elt F .f32 :=
  transpose S4096x20x128 [1, 0, 2] (result (blocked ids) X) transposes_S20x4096x128_S4096x20x128_1_0_2

omit [FloatOps F] in
/-- Blocking only moves row numbers, so what bounds them all bounds them in blocks. -/
theorem blocked_lt (ids : S4096x20.Idx → Elt F .i32) (h : ∀ j, (ids j).toNat < 100000) (j : S32x20x128.Idx) :
    (blocked ids j).toNat < 100000 := h _

/-! ## The buffers of the TensorCore -/

abbrev idsR : DevRef τ sig := Proc.devRef .tc (main_arg0 : Ref sig .tc)
abbrev tabR : DevRef τ sig := Proc.devRef .tc (main_arg1 : Ref sig .tc)
abbrev resR : DevRef τ sig := Proc.devRef .tc (main_v0 : Ref sig .tc)
abbrev blkR : DevRef τ sig := Proc.devRef .tc (main_v1 : Ref sig .tc)
abbrev outR : DevRef τ sig := Proc.devRef .tc (main_v2 : Ref sig .tc)
abbrev retR : DevRef τ sig := Proc.devRef .tc (main_v3 : Ref sig .tc)

/-- The row numbers as given, and what the program returns. -/
abbrev idsLoc (d : Dev nD) : Loc nD τ sig := (SparseCore.T d).loc main_arg0
abbrev retLoc (d : Dev nD) : Loc nD τ sig := (SparseCore.T d).loc main_v3

/-- The three operations around the call. -/
abbrev opReshape : HloOp τ sig (Elt F) := StableHlo.reshape main_arg0 main_v0 (rfl : (.i32 : EltTy) = .i32) shapeCasts_S4096x20_S32x128x20
abbrev opBlock : HloOp τ sig (Elt F) :=
  StableHlo.unary main_v0 main_v1 ((transpose S32x20x128 [0, 2, 1] · transposes_S32x128x20_S32x20x128_0_2_1) :
    (⟨S32x128x20, .i32⟩ : BufTy).Contents (Elt F) → (⟨S32x20x128, .i32⟩ : BufTy).Contents (Elt F))
abbrev opBatch : HloOp τ sig (Elt F) :=
  StableHlo.unary main_v2 main_v3 ((transpose S4096x20x128 [1, 0, 2] · transposes_S20x4096x128_S4096x20x128_1_0_2) :
    (⟨S20x4096x128, .f32⟩ : BufTy).Contents (Elt F) → (⟨S4096x20x128, .f32⟩ : BufTy).Contents (Elt F))

/-- All six buffers. -/
abbrev six : Finset (DevRef τ sig) := {idsR, tabR, resR, blkR, outR, retR}

omit [FloatOps F] in
theorem held_six (d : Dev nD) (W : Valuation τ sig (Elt F)) :
    (held (SparseCore.T d) six W : sProp (MM F))
      = iprop((idsLoc d ↦{fullShare} W idsR) ∗ (xLoc d ↦{fullShare} W tabR) ∗ ((SparseCore.T d).loc main_v0 ↦{fullShare} W resR)
          ∗ (iLoc d ↦{fullShare} W blkR) ∗ (oLoc d ↦{fullShare} W outR) ∗ retLoc d ↦{fullShare} W retR) := by
  unfold held six
  rw [SparseCore.bigSep_insert' (by decide), SparseCore.bigSep_insert' (by decide), SparseCore.bigSep_insert' (by decide),
    SparseCore.bigSep_insert' (by decide), SparseCore.bigSep_insert' (by decide), bigSep_singleton]

omit [FloatOps F] in
/-- Nothing else is a buffer of the whole run. -/
theorem buffers_eq (d : Dev nD) (W : (b : Ref sig .tc) → Buf (Elt F) ((d.tc : Thread nD τ).loc b)) :
    (unscopedBufs d W : sProp (MM F))
      = iprop((idsLoc d ↦{fullShare} W main_arg0) ∗ (xLoc d ↦{fullShare} W main_arg1) ∗ ((SparseCore.T d).loc main_v0 ↦{fullShare} W main_v0)
          ∗ (iLoc d ↦{fullShare} W main_v1) ∗ (oLoc d ↦{fullShare} W main_v2) ∗ retLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

section Launch
variable (m : (ℓ : Loc nD τ sig) → Buf (Elt F) ℓ) (ρ : Dev nD → PrngReg)

/-- The contents at the launch, before the call, and after it. -/
def atLaunch (d : Dev nD) : Valuation τ sig (Elt F) := fun b => m (d, b)
def atCall (d : Dev nD) : Valuation τ sig (Elt F) := (opBlock (F := F)).result ((opReshape (F := F)).result (atLaunch m d))
def afterCall (d : Dev nD) : Valuation τ sig (Elt F) :=
  Function.update (atCall m d) outR (result (blocked (m (idsLoc d))) (m (xLoc d)))

theorem launch_held (d : Dev nD) :
    (unscopedBufs d (fun b => m ((SparseCore.T d).loc b)) : sProp (MM F)) = held (SparseCore.T d) six (atLaunch m d) := by
  rw [buffers_eq, held_six]; rfl

/-- Before the call only the blocked row numbers and their reshape have been written. -/
theorem atCall_keeps (d : Dev nD) (b : DevRef τ sig) (h0 : b ∉ ({resR} : Finset (DevRef τ sig))) (h1 : b ∉ ({blkR} : Finset (DevRef τ sig))) :
    atCall m d b = m (d, b) := by
  unfold atCall
  rw [(opBlock (F := F)).result_of_not_mem _ h1, (opReshape (F := F)).result_of_not_mem _ h0]
  rfl

theorem atCall_blk (d : Dev nD) : atCall m d blkR = blocked (m (idsLoc d)) := by
  unfold atCall
  refine (StableHlo.unary_result main_v0 main_v1 _ _ _ _).trans ?_
  rw [StableHlo.reshape_result main_arg0 main_v0]
  rfl

theorem atCall_ids (d : Dev nD) : atCall m d idsR = m (idsLoc d) := atCall_keeps m d idsR (by decide) (by decide)
theorem atCall_tab (d : Dev nD) : atCall m d tabR = m (xLoc d) := atCall_keeps m d tabR (by decide) (by decide)
theorem atCall_out (d : Dev nD) : atCall m d outR = m (oLoc d) := atCall_keeps m d outR (by decide) (by decide)

/-- The call writes its result and nothing else. -/
theorem afterCall_keeps (d : Dev nD) (b : DevRef τ sig) (h : b ≠ outR) : afterCall m d b = atCall m d b :=
  Function.update_of_ne h _ _
theorem afterCall_out (d : Dev nD) : afterCall m d outR = result (blocked (m (idsLoc d))) (m (xLoc d)) :=
  Function.update_self _ _ _

/-- The six buffers when the call begins. -/
theorem held_atCall (d : Dev nD) :
    (held (SparseCore.T d) six ((opBlock (F := F)).result ((opReshape (F := F)).result (atLaunch m d))) : sProp (MM F))
      = iprop((idsLoc d ↦{fullShare} m (idsLoc d)) ∗ (xLoc d ↦{fullShare} m (xLoc d)) ∗ ((SparseCore.T d).loc main_v0 ↦{fullShare} atCall m d resR)
          ∗ (iLoc d ↦{fullShare} blocked (m (idsLoc d))) ∗ (oLoc d ↦{fullShare} m (oLoc d)) ∗ retLoc d ↦{fullShare} atCall m d retR) := by
  show held (SparseCore.T d) six (atCall m d) = _
  rw [held_six, atCall_ids, atCall_tab, atCall_blk, atCall_out]

/-- The six buffers when it has ended. -/
theorem held_afterCall (d : Dev nD) :
    (held (SparseCore.T d) six (afterCall m d) : sProp (MM F))
      = iprop((idsLoc d ↦{fullShare} m (idsLoc d)) ∗ (xLoc d ↦{fullShare} m (xLoc d)) ∗ ((SparseCore.T d).loc main_v0 ↦{fullShare} atCall m d resR)
          ∗ (iLoc d ↦{fullShare} blocked (m (idsLoc d))) ∗ (oLoc d ↦{fullShare} result (blocked (m (idsLoc d))) (m (xLoc d)))
          ∗ retLoc d ↦{fullShare} atCall m d retR) := by
  rw [held_six, afterCall_out, afterCall_keeps m d idsR (by decide), afterCall_keeps m d tabR (by decide), afterCall_keeps m d resR (by decide),
    afterCall_keeps m d blkR (by decide), afterCall_keeps m d retR (by decide), atCall_ids, atCall_tab, atCall_blk]

/-- The transposed result. -/
theorem atEnd_ret (d : Dev nD) : (opBatch (F := F)).result (afterCall m d) retR = embedded (m (idsLoc d)) (m (xLoc d)) := by
  refine (StableHlo.unary_result main_v2 main_v3 _ _ _ _).trans ?_
  rw [afterCall_out]
  rfl

theorem atEnd_keeps (d : Dev nD) (b : DevRef τ sig) (h : b ∉ ({retR} : Finset (DevRef τ sig))) :
    (opBatch (F := F)).result (afterCall m d) b = afterCall m d b := (opBatch (F := F)).result_of_not_mem _ h

/-- The six buffers at the end. -/
theorem held_atEnd (d : Dev nD) :
    (held (SparseCore.T d) six ((opBatch (F := F)).result (afterCall m d)) : sProp (MM F))
      = iprop((idsLoc d ↦{fullShare} m (idsLoc d)) ∗ (xLoc d ↦{fullShare} m (xLoc d)) ∗ ((SparseCore.T d).loc main_v0 ↦{fullShare} afterCall m d resR)
          ∗ (iLoc d ↦{fullShare} afterCall m d blkR) ∗ (oLoc d ↦{fullShare} afterCall m d outR)
          ∗ retLoc d ↦{fullShare} embedded (m (idsLoc d)) (m (xLoc d))) := by
  rw [held_six, atEnd_ret, atEnd_keeps m d idsR (by decide), atEnd_keeps m d tabR (by decide), atEnd_keeps m d resR (by decide),
    atEnd_keeps m d blkR (by decide), atEnd_keeps m d outR (by decide), afterCall_keeps m d idsR (by decide), afterCall_keeps m d tabR (by decide),
    atCall_ids, atCall_tab]

theorem reshape_in : (opReshape (F := F)).bufs ⊆ six := show ({idsR, resR} : Finset (DevRef τ sig)) ⊆ six by decide
theorem block_in : (opBlock (F := F)).bufs ⊆ six := show ({resR, blkR} : Finset (DevRef τ sig)) ⊆ six by decide
theorem batch_in : (opBatch (F := F)).bufs ⊆ six := show ({outR, retR} : Finset (DevRef τ sig)) ⊆ six by decide

/-! ## The program on the TensorCore -/

/-- The payloads of this launch. -/
abbrev PL : (K (F := F)).Pay (nD := nD) (Val := Elt F) (Name := ℕ) (U := UU) :=
  P (fun d => blocked (m (idsLoc d))) (fun d => m (xLoc d)) (fun d => m (oLoc d))

/-- What the calls' cores are sent, and what they send back. -/
theorem sent_eq (d : Dev nD) : (bigSep Finset.univ fun c : Fin ((K (F := F)).nCore 0) => (PL m).st 0 d c)
    = bigSep Finset.univ fun c : Fin 2 => bigSep Finset.univ fun s : Fin 16 =>
        takenP (blocked (m (idsLoc d))) (m (xLoc d)) (m (oLoc d)) d (gridPt c s) := rfl
theorem back_eq (d : Dev nD) : (bigSep Finset.univ fun c : Fin ((K (F := F)).nCore 0) => (PL m).dn 0 d c)
    = bigSep Finset.univ fun c : Fin 2 => bigSep Finset.univ fun s : Fin 16 =>
        takenP (blocked (m (idsLoc d))) (m (xLoc d)) (result (blocked (m (idsLoc d))) (m (xLoc d))) d (gridPt c s) := rfl

/-- What the program leaves to be read: the arguments as they were and the result. -/
abbrev left (d : Dev nD) : sProp (MM F) :=
  iprop((idsLoc d ↦{fullShare} m (idsLoc d)) ∗ (xLoc d ↦{fullShare} m (xLoc d)) ∗ retLoc d ↦{fullShare} embedded (m (idsLoc d)) (m (xLoc d)))

/-- The program on one device: reshape and transpose the row numbers, deal the operands to the tiles and gather them back
    around the call, transpose the result. -/
theorem main_wp (κ : GSem nD τ sig → ℕ) (d : Dev nD) :
    iprop((K (F := F)).ctx EH (PL m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ left m d ∗ (K (F := F)).tcEnd d) := by
  unfold SparseCore.Cfg.tcRes SparseCore.Cfg.tcEnd
  rw [launch_held]
  simp only [main, wp_bind, wp_pure]
  iintro ⟨#Hctx, Hst, ⟨Hb, Hheld, Hts, -⟩, -⟩
  iapply (wp_hlo_within 𝒱 (SparseCore.T d) none Set.univ (op := opReshape) (S := six) reshape_in (V := atLaunch m d)) $$ [Hb Hheld]
  · isplitl [Hb] <;> iassumption
  iintro ⟨Hb, Hheld⟩
  rw [wp_ret]; imodintro
  iapply (wp_hlo_within 𝒱 (SparseCore.T d) none Set.univ (op := opBlock) (S := six) block_in
    (V := (opReshape (F := F)).result (atLaunch m d))) $$ [Hb Hheld]
  · isplitl [Hb] <;> iassumption
  iintro ⟨Hb, Hheld⟩
  rw [wp_ret]; imodintro
  ihave Hh := (Entails.of_eq (held_atCall (F := F) m d)) $$ Hheld
  icases Hh with ⟨Hids, Hx, Hres, Hi, Ho, Hret⟩
  ihave Hdeal := (deal (blocked (m (idsLoc d))) (m (xLoc d)) d (m (oLoc d))).1 $$ [Hi Hx Ho]
  · isplitl [Hi]; · iexact Hi
    isplitl [Hx]; · iexact Hx
    iexact Ho
  icases Hdeal with ⟨Hkept, Htiles⟩
  iapply ((K (F := F)).wp_run (D (F := F)) 𝒱 (EH := EH) (P := PL m) κ d 0) $$ [Hst Htiles Hids Hres Hret Hkept Hb Hts]
  isplitr; · iexact Hctx
  isplitl [Hst]; · iexact Hst
  isplitl [Htiles]
  · rw [sent_eq]; iexact Htiles
  iintro ⟨Hst, Hdn⟩
  ihave Hback := (Entails.of_eq (back_eq m d)) $$ Hdn
  ihave Hwhole := (deal (blocked (m (idsLoc d))) (m (xLoc d)) d (result (blocked (m (idsLoc d))) (m (xLoc d)))).2 $$ [Hkept Hback]
  · isplitl [Hkept] <;> iassumption
  icases Hwhole with ⟨Hi, Hx, Ho⟩
  iapply (wp_hlo_within 𝒱 (SparseCore.T d) none Set.univ (op := opBatch) (S := six) batch_in (V := afterCall m d)) $$ [Hb Hids Hx Hres Hi Ho Hret]
  · isplitl [Hb]; · iexact Hb
    rw [held_afterCall]
    isplitl [Hids]; · iexact Hids
    isplitl [Hx]; · iexact Hx
    isplitl [Hres]; · iexact Hres
    isplitl [Hi]; · iexact Hi
    isplitl [Ho]; · iexact Ho
    iexact Hret
  iintro ⟨Hb, Hheld⟩
  ihave Hh := (Entails.of_eq (held_atEnd (F := F) m d)) $$ Hheld
  icases Hh with ⟨Hids, Hx, -, -, -, Hret⟩
  rw [wp_ret]; imodintro; imodintro
  isplitl [Hst]; · iexact Hst
  isplitr [Hb Hts]
  · isplitl [Hids]; · iexact Hids
    isplitl [Hx]; · iexact Hx
    iexact Hret
  isplitl [Hb] <;> iassumption

/-! ## The run -/

/-- The resources the run begins with: the handshakes' rounds, and no transfer outstanding. -/
def start : UU := (initOf (K (F := F)).hsCells (K (F := F)).hsToks, 1)

omit [FloatOps F] in
/-- Nothing, once for each member. -/
theorem emps {I : Type} (s : Finset I) : (bigSep s fun _ => iprop(emp)) = (iprop(emp) : sProp (MM F)) := bigSep_emp_const s

/-- They give the handshakes what they need; the program and the tiles want nothing more. -/
theorem start_deal : (ownU (start (F := F)) : sProp (MM F))
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (PL m).x q t) := by
  have hx : (bigSep Finset.univ fun t : Thread nD τ => bigSep Finset.univ fun q : Fin 1 => (PL (F := F) m).x q t) = (iprop(emp) : sProp (MM F)) :=
    (bigSep_congr fun _ _ => bigSep_univ_of_subsingleton (0 : Fin 1)).trans (emps _)
  rw [emps, hx]
  unfold start
  iintro Hu
  ihave H := (ownU_pair (initOf (K (F := F)).hsCells (K (F := F)).hsToks) (1 : Counters)) $$ Hu
  icases H with ⟨HH, -⟩
  imodintro
  isplitl [HH]; · iexact HH
  isplitr <;> iempintro

/-- What a device's final memory holds. -/
def ends (d : Dev nD) (s : MemSt nD τ sig (Elt F)) : Prop :=
  s.mem (retLoc d) = embedded (m (idsLoc d)) (m (xLoc d)) ∧ s.mem (idsLoc d) = m (idsLoc d) ∧ s.mem (xLoc d) = m (xLoc d)

omit [FloatOps F] in
/-- A buffer owned whole is the machine's buffer. -/
theorem whole_read (ℓ : Loc nD τ sig) (f : Buf (Elt F) ℓ) (s : Phys nD τ sig (Elt F)) :
    iprop(SI s ∗ ℓ ↦{fullShare} f) ⊢ (iprop(⌜s.mem.mem ℓ = f⌝ ∗ SI s ∗ ℓ ↦{fullShare} f) : sProp (MM F)) := by
  refine (persistent_entails_right (SI_pointsTo_agree (st := s) (ℓ := ℓ) (I := Finset.univ) (q := fullShare) (f := f))).trans ?_
  iintro ⟨%h, H⟩
  isplitr
  · ipureintro; exact funext fun i => h i (Finset.mem_univ i)
  · iexact H

set_option maxRecDepth 16384 in
/-- What the program leaves says what the final memory holds. -/
theorem left_read (d : Dev nD) (s : Phys nD τ sig (Elt F)) : iprop(left m d ∗ SI s) ⊢ (⌜ends m d s.mem⌝ : sProp (MM F)) := by
  iintro ⟨⟨Hids, Hx, Hret⟩, HSI⟩
  ihave H := (whole_read (idsLoc d) (m (idsLoc d)) s) $$ [HSI Hids]
  · isplitl [HSI] <;> iassumption
  icases H with ⟨%h1, HSI, -⟩
  ihave H := (whole_read (xLoc d) (m (xLoc d)) s) $$ [HSI Hx]
  · isplitl [HSI] <;> iassumption
  icases H with ⟨%h2, HSI, -⟩
  ihave H := (whole_read (retLoc d) (embedded (m (idsLoc d)) (m (xLoc d))) s) $$ [HSI Hret]
  · isplitl [HSI] <;> iassumption
  icases H with ⟨%h3, -, -⟩
  ipureintro
  exact ⟨h3, h1, h2⟩

/-- From row numbers below the table's height every fair run ends with the rows looked up, the arguments unchanged and
    every semaphore at zero. -/
theorem run_all [∀ e, Nonempty (Elt F e)] (hids : ∀ d j, (m (idsLoc d) j).toNat < 100000) :
    θ_run (Cert.KernelIdeal.defs (F := F)) (Cert.KernelIdeal.threads (F := F)) ⟨m, fun _ => 0, ρ⟩
      fun r => (∀ d, ends m d r.2) ∧ r.2.sem = fun _ => 0 :=
  SparseCore.Cfg.θ_run_sc_quiescent (K := K (F := F)) (D := D (F := F)) (𝒱 := 𝒱) (EH := EH) (P := PL m) (A := ∅) facts v₀
    (fun q hq => match q with | 0 => nomatch hq)
    (fun q _ => match q with | 0 => tileObl _ _ _ facts fun d => blocked_lt _ (hids d))
    (fun q _ => match q with | 0 => SparseCore.Cfg.VecSplit.of_plain (vecSplit _ _ _))
    m ρ main (fun _ => iprop(emp)) (left m) (start (F := F)) (sep_elim_left.trans (start_deal m)) (main_wp m ρ)
    (fun d s => ends m d s.mem) (left_read m) _ (fun _ h hz => ⟨h, hz⟩)

end Launch

end Cert.Proof.Embed
-- ==== Proof.Lookup.lean ====
/-
  What the program returns, element by element: for batch row `b` and time step `t`, the row of the table whose number
  stands at `(b, t)`. The reshapes and transposes around the tiles' work only move elements.
-/
module

public import proofs.«01_k».proof.Proof.Run
public import Idealize.ShloMosaic.Lib.Pipeline.Value

@[expose] public section

noncomputable section

namespace Cert.Proof.Embed

open Cert.KernelIdeal Cert.KernelIdeal.Gen
open Idealize.ShloMosaic
open Idealize.ShloMosaic.ValueIdx (ix2 ix3)

variable {F : FTy → Type} [FloatOps F]

/-- The rows looked up: at `(b, t, e)`, element `e` of the row of the table that the word at `(b, t)` names. -/
def lookup (ids : S4096x20.Idx → BitVec 32) (X : S100000x128.Idx → Elt F .f32) : S4096x20x128.Idx → Elt F .f32 :=
  fun i => X (ix2 (rowNo (ids (ix2 (i 0) (i 1)))) (i 2))

/-- The row numbers in blocks of 128 batch rows: in block `w`, at time step `t`, place `p` holds batch row `128 * w + p`'s. -/
theorem blocked_apply (ids : S4096x20.Idx → Elt F .i32) (w : Fin 32) (t : Fin 20) (p : Fin 128) :
    blocked ids (ix3 w t p) = ids (ix2 ⟨128 * w.val + p.val, by omega⟩ t) := by
  unfold blocked
  refine (transpose_apply _ _ transposes_S32x128x20_S32x20x128_0_2_1 (ix3 w t p) (ix3 w p t : S32x128x20.Idx) ?_).trans ?_
  · intro b
    match b with
    | ⟨0, _⟩ => rfl
    | ⟨1, _⟩ => rfl
    | ⟨2, _⟩ => rfl
  · refine shapeCast_apply _ shapeCasts_S4096x20_S32x128x20 _ _ ?_
    rw [Shape.rowMajor_val_two, Shape.rowMajor_val_three]
    show (128 * w.val + p.val) * 20 + t.val = (w.val * 128 + p.val) * 20 + t.val
    omega

/-- The program's result is the rows looked up. -/
theorem embedded_eq (ids : S4096x20.Idx → Elt F .i32) (X : S100000x128.Idx → Elt F .f32) : embedded ids X = lookup ids X := by
  funext i
  unfold embedded
  refine (transpose_apply _ _ transposes_S20x4096x128_S4096x20x128_1_0_2 i (ix3 (i 1) (i 0) (i 2) : S20x4096x128.Idx) ?_).trans ?_
  · intro b
    match b with
    | ⟨0, _⟩ => rfl
    | ⟨1, _⟩ => rfl
    | ⟨2, _⟩ => rfl
  · have h0 : (i 0).val < 4096 := (i 0).isLt
    have hb : blocked ids (ix3 ⟨(i 0).val / 128, by omega⟩ (i 1) ⟨(i 0).val % 128, Nat.mod_lt _ (by decide)⟩) = ids (ix2 (i 0) (i 1)) := by
      refine (blocked_apply ids _ _ _).trans (congrArg (fun r => ids (ix2 r (i 1))) (Fin.ext ?_))
      show 128 * ((i 0).val / 128) + (i 0).val % 128 = (i 0).val
      omega
    show X (ix2 (rowNo (blocked ids (ix3 ⟨(i 0).val / 128, _⟩ (i 1) ⟨(i 0).val % 128, _⟩))) (i 2)) = _
    rw [hb]
    rfl

end Cert.Proof.Embed
-- ==== Proof.Reference.lean ====
/-
  The reference, element by element. It looks up a row at each row number after moving negative numbers up by the table's
  height, and puts a fixed value in place of the rows whose number lies outside the table. From row numbers inside the
  table it returns the rows looked up.
-/
module

public import proofs.«01_k».proof.Proof.Lookup
public import proofs.«01_k».proof.Proof.Gen.ReferenceIdeal
public import proofs.«01_k».proof.Proof.Gen.ReferenceIdeal.Run
public import proofs.«01_k».proof.Proof.Gen.ReferenceIdeal.Read
public import Idealize.ShloMosaic.Lib.ReduceAll
public import Idealize.ShloMosaic.Lib.StableHlo.Predicate
public import Idealize.ShloMosaic.Lib.Quiescent

@[expose] public section

noncomputable section

namespace Cert.Proof.Embed

open Cert.ReferenceIdeal Cert.ReferenceIdeal.Gen Cert.ReferenceIdeal.Read
open Idealize.ShloMosaic Idealize.ShloMosaic.StableHlo Idealize.SL.Sem
open Idealize.ShloMosaic.ValueIdx (ix2 ix3)

variable {F : FTy → Type} [FloatOps F]

/-! ## The lookup of the reference -/

/-- The place in the list of row numbers that a result's place reads. -/
abbrev numberAt (i : S4096x20x128.Idx) : S4096x20x1.Idx := ix3 (i 0) (i 1) 0

/-- The shape of the lookup: rows of the table by one number each. -/
abbrev byRow : GatherDims S100000x128 S4096x20x1 S4096x20x128 := gather_S100000x128_S4096x20x1_S4096x20x128_2_0_n_n_0_2_1128

theorem byRow_start (n : IVec S4096x20x1 32) (i : S4096x20x128.Idx) : byRow.start i n 0 = min (n (numberAt i)).toInt.toNat 99999 := by
  unfold GatherDims.start
  rw [dif_pos (show (0 : Fin 2) ∈ byRow.startIndexMap from List.mem_singleton.mpr rfl)]
  have hn : byRow.siIdx i ⟨List.idxOf (0 : Fin 2) byRow.startIndexMap, List.idxOf_lt_length_iff.2 (List.mem_singleton.mpr rfl)⟩ = numberAt i := by
    funext b
    refine Fin.ext ?_
    match b with
    | ⟨0, _⟩ => rfl
    | ⟨1, _⟩ => rfl
    | ⟨2, _⟩ => rfl
  rw [hn]
  rfl

/-- The lookup at `(b, t, e)` with the number at `(b, t)` inside the table: element `e` of that row. -/
theorem byRow_apply (X : S100000x128.Idx → Elt F .f32) (n : IVec S4096x20x1 32) (i : S4096x20x128.Idx)
    (h : (n (numberAt i)).toNat < 100000) : Host.gather byRow X n i = X (ix2 (rowNo (n (numberAt i))) (i 2)) := by
  show X (byRow.operandIdx i n) = _
  have nob : ∀ a : Fin 2, byRow.batchCoord i a = 0 := fun a => GatherDims.batchCoord_eq_zero _ _ _ List.not_mem_nil
  refine congrArg X (funext fun a => Fin.ext ?_)
  show byRow.start i n a + byRow.batchCoord i a + byRow.offCoord i a = _
  rw [nob a]
  match a with
  | ⟨0, _⟩ =>
    have h0 : byRow.offCoord i 0 = 0 :=
      GatherDims.offCoord_eq_zero _ _ _ (fun h => ((GatherDims.mem_sKept _ _).mp h).1 (List.mem_singleton.mpr rfl))
    show byRow.start i n 0 + 0 + byRow.offCoord i 0 = (rowNo (n (numberAt i))).val
    rw [byRow_start, h0, rowNo_of_lt h, Predicate.toInt_eq_toNat_of_lt (by omega)]
    show min ((n (numberAt i)).toNat : ℤ).toNat 99999 + 0 + 0 = (n (numberAt i)).toNat
    omega
  | ⟨1, _⟩ =>
    show byRow.start i n 1 + 0 + byRow.offCoord i 1 = (i 2).val
    have h1 : byRow.start i n 1 = 0 := by unfold GatherDims.start; exact dif_neg (by decide)
    have h2 : byRow.offCoord i 1 = (i 2).val := by
      unfold GatherDims.offCoord
      rw [dif_pos (by decide)]
      rfl
    omega

/-! ## What stands around it -/

/-- A number inside the table is not negative, so it is not moved. -/
theorem moved_eq (ids : S4096x20.Idx → Elt F .i32) (j : S4096x20.Idx) (h : (ids j).toNat < 100000) :
    val_main_call0_v4 (F := F) ids j = ids j := by
  rw [val_main_call0_v4_apply, val_main_call0_v1_apply, val_main_call0_v0_apply, val_main_call0_c_apply]
  refine if_neg fun e => ?_
  have := (Predicate.slt_iff_toNat (by omega) (by decide)).1 e
  simp at this

/-- The numbers as the lookup takes them. -/
theorem number_eq (ids : S4096x20.Idx → Elt F .i32) (h : ∀ j, (ids j).toNat < 100000) (k : S4096x20x1.Idx) :
    val_main_call0_v5 (F := F) ids k = ids (ix2 (k 0) (k 1)) := by
  rw [val_main_call0_v5_apply, moved_eq ids _ (h _)]
  refine congrArg ids (funext fun a => ?_)
  match a with
  | ⟨0, _⟩ => rfl
  | ⟨1, _⟩ => rfl

/-- Every number is found to be inside the table. -/
theorem inside_eq (ids : S4096x20.Idx → Elt F .i32) (h : ∀ j, (ids j).toNat < 100000) (k : S4096x20x1.Idx) :
    val_main_call0_v11 (F := F) ids k = 1#1 := by
  have hk := h (ix2 (k 0) (k 1))
  rw [val_main_call0_v11_apply, val_main_call0_v7_apply, val_main_call0_v10_apply, number_eq ids h k, val_main_call0_v6_apply,
    val_main_call0_c_2_apply, val_main_call0_v9_apply, val_main_call0_v8_apply, val_main_call0_c_1_apply]
  refine IntOp.andi_eq_one.2 ⟨(Predicate.sge_iff_toNat (by omega) (by decide)).2 (by simp), (Predicate.sle_iff_toNat (by omega) (by decide)).2 ?_⟩
  simp only [BitVec.toNat_ofNat]
  omega

/-- So no row is replaced. -/
theorem kept_eq (ids : S4096x20.Idx → Elt F .i32) (h : ∀ j, (ids j).toNat < 100000) (i : S4096x20x128.Idx) :
    val_main_call0_v14 (F := F) ids i = 1#1 := by
  rw [val_main_call0_v14_apply]
  exact Host.reduce_andi_one _ _ _ _ _ rfl (inside_eq ids h)

/-- The reference's result is the rows looked up. -/
theorem reference_eq (ids : S4096x20.Idx → Elt F .i32) (X : S100000x128.Idx → Elt F .f32) (h : ∀ j, (ids j).toNat < 100000) :
    val_main_v0 (F := F) ids X = lookup ids X := by
  funext i
  have hn : val_main_call0_v5 (F := F) ids (numberAt i) = ids (ix2 (i 0) (i 1)) := number_eq ids h (numberAt i)
  rw [val_main_v0_apply, kept_eq ids h i]
  show val_main_call0_v13 (F := F) ids X i = _
  unfold val_main_call0_v13
  rw [byRow_apply X _ i (by rw [hn]; exact h _), hn]
  rfl

/-! ## Its run -/

/-- The reference ends with the value of its operations, its arguments unchanged and every semaphore at zero. -/
theorem reference_run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v0)
          = val_main_v0 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono
    (fun r h => ⟨fun c => ⟨(h c).1.trans (val_main_v0_eq _ _), (h c).2⟩, sem_eq_zero_of_no_sems (by decide) r.2⟩)
    (Cert.ReferenceIdeal.Value.run m ρ)

end Cert.Proof.Embed
-- ==== Proof.lean ====
/-
  The claims. The kernel and its idealization are one text, so the run proved in Proof/Run.lean for any float values
  serves both; the value claim compares what that run returns (Proof/Lookup.lean) with what the reference returns
  (Proof/Reference.lean): both are the rows looked up.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_table
public import Idealize.ShloMosaic.Adequacy
public import Idealize.ShloMosaic.Init
public import proofs.«01_k».proof.Proof.Range
public import proofs.«01_k».proof.Proof.Lookup
public import proofs.«01_k».proof.Proof.Reference

@[expose] public section

noncomputable section

namespace Cert.Proof

open Idealize.ShloMosaic Idealize.SL.Sem Cert.Proof.Embed

/-- The kernel ends with its arguments unchanged and every semaphore at zero. -/
theorem kernel_frame : Cert.quiescent_Kernel := fun m ρ hpre =>
  (θ_run Cert.Kernel.defs _ _).mono (fun _ h => ⟨fun c => (h.1 c).2, h.2⟩)
    (run_all (F := Bits) m ρ fun d => ids_in_range _ _ (hpre d))

/-- So does its idealization. -/
theorem ideal_frame : Cert.quiescent_KernelIdeal := fun m ρ hpre =>
  (θ_run Cert.KernelIdeal.defs _ _).mono (fun _ h => ⟨fun c => (h.1 c).2, h.2⟩)
    (run_all (F := Ideal) m ρ fun d => ids_in_range _ _ (hpre d))

/-- So does the reference, from any arguments. -/
theorem reference_frame : Cert.quiescent_ReferenceIdeal := fun m ρ _ =>
  (θ_run Cert.ReferenceIdeal.defs _ _).mono (fun _ h => ⟨fun c => (h.1 c).2, h.2⟩) (reference_run (F := Ideal) m ρ)

/-- And so from arguments under the precondition. -/
theorem reference_frame_pre : Cert.quiescent_ReferenceIdeal_pre_in_table := fun m ρ _ => reference_frame m ρ trivial

/-- Kernel and reference return the same: the rows looked up. -/
theorem same_value : Cert.algebraic_KernelIdeal_ReferenceIdeal := by
  intro m ρ m' ρ' hpre hargs
  have hids : ∀ (c : Dev Cert.KernelIdeal.nD) j, (m (idsLoc c) j).toNat < 100000 := fun c => ids_in_range _ _ (hpre c)
  refine ⟨fun c => lookup (F := Ideal) (m (idsLoc c)) (m (xLoc c)), ?_, ?_⟩
  · exact (θ_run Cert.KernelIdeal.defs _ _).mono (fun _ h c => ⟨(h.1 c).1.trans (embedded_eq _ _), (h.1 c).2⟩)
      (run_all (F := Ideal) m ρ hids)
  · refine (θ_run Cert.ReferenceIdeal.defs _ _).mono (fun r h c => ⟨(h.1 c).1.trans ?_, (h.1 c).2⟩) (reference_run (F := Ideal) m' ρ')
    obtain ⟨h0, h1⟩ := hargs c
    rw [h0, h1]
    exact reference_eq (F := Ideal) _ _ (hids c)

theorem claim : Cert.Claim :=
  ⟨Cert.Kernel.Gen.facts, Cert.KernelIdeal.Gen.facts, Cert.ReferenceIdeal.Gen.facts, Cert.Pre_in_table.Gen.facts,
    kernel_frame, ideal_frame, reference_frame, reference_frame_pre, trivial, same_value⟩

end Cert.Proof

end
